-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_butterfly_pairs [hPre_butterfly_pairs : Cert.Pre_butterfly_pairs.Facts] (m : (ℓ : Loc Cert.KernelIdeal.nD Cert.KernelIdeal.τ Cert.KernelIdeal.sig) → Buf (Elt Ideal) ℓ) : Prop :=
  ∀ c : Dev Cert.KernelIdeal.nD,
    (Cert.Pre_butterfly_pairs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_butterfly_pairs [hPre_butterfly_pairs : Cert.Pre_butterfly_pairs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_butterfly_pairs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_butterfly_pairs [hKernelIdeal : Cert.KernelIdeal.Facts] [hPre_butterfly_pairs : Cert.Pre_butterfly_pairs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_butterfly_pairs m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_butterfly_pairs [hReferenceIdeal : Cert.ReferenceIdeal.Facts] [hPre_butterfly_pairs : Cert.Pre_butterfly_pairs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_butterfly_pairs m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal_pre_butterfly_pairs [hKernelIdeal : Cert.KernelIdeal.Facts] [hReferenceIdeal : Cert.ReferenceIdeal.Facts] [hPre_butterfly_pairs : Cert.Pre_butterfly_pairs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_butterfly_pairs m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v64) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_butterfly_pairs : Cert.Pre_butterfly_pairs.Facts),
    quiescent_Kernel (hKernel := hKernel)
    ∧ quiescent_KernelIdeal (hKernelIdeal := hKernelIdeal)
    ∧ quiescent_KernelIdeal_pre_butterfly_pairs (hKernelIdeal := hKernelIdeal) (hPre_butterfly_pairs := hPre_butterfly_pairs)
    ∧ quiescent_ReferenceIdeal (hReferenceIdeal := hReferenceIdeal)
    ∧ quiescent_ReferenceIdeal_pre_butterfly_pairs (hReferenceIdeal := hReferenceIdeal) (hPre_butterfly_pairs := hPre_butterfly_pairs)
    ∧ preserves_Kernel_KernelIdeal
    ∧ algebraic_KernelIdeal_ReferenceIdeal_pre_butterfly_pairs (hKernelIdeal := hKernelIdeal) (hReferenceIdeal := hReferenceIdeal) (hPre_butterfly_pairs := hPre_butterfly_pairs)
-- ==== Pre_butterfly_pairs.lean ====
abbrev S2048 : Shape := ⟨1, ![2048]⟩
abbrev S_ : Shape := ⟨0, ![]⟩

class Facts : Prop where
  bcast_S_S2048 : S_.BroadcastsInDim S2048 (![] : Fin 0 → Fin S2048.rank)

variable [Facts]

def fn {F : FTy → Type} [FloatOps F] (main_arg0 : FVec F S2048 .f32) (main_arg1 : IVec S2048 32) (main_arg2 : IVec S2048 32) : IVec S2048 1 :=
  let main_v0 : IVec S2048 32 := iotaInDim S2048 32 0
  let main_c : IVec S_ 32 := constantI S_ 32 5#32
  let main_v1 : IVec S2048 32 := broadcastInDim S2048 ![] bcast_S_S2048 main_c
  let main_v2 : IVec S2048 32 := Host.shrsi main_v0 main_v1
  let main_c_0 : IVec S_ 32 := constantI S_ 32 6#32
  let main_v3 : IVec S2048 32 := broadcastInDim S2048 ![] bcast_S_S2048 main_c_0
  let main_v4 : IVec S2048 32 := Host.shli main_v2 main_v3
  let main_c_1 : IVec S_ 32 := constantI S_ 32 31#32
  let main_v5 : IVec S2048 32 := broadcastInDim S2048 ![] bcast_S_S2048 main_c_1
  let main_v6 : IVec S2048 32 := andi main_v0 main_v5
  let main_v7 : IVec S2048 32 := addi main_v4 main_v6
  let main_v8 : IVec S2048 1 := cmpi .eq main_arg1 main_v7
  let main_c_2 : IVec S_ 32 := constantI S_ 32 32#32
  let main_v9 : IVec S2048 32 := broadcastInDim S2048 ![] bcast_S_S2048 main_c_2
  let main_v10 : IVec S2048 32 := addi main_v7 main_v9
  let main_v11 : IVec S2048 1 := cmpi .eq main_arg2 main_v10
  let main_v12 : IVec S2048 1 := andi main_v8 main_v11
  main_v12
-- ==== Kernel.lean ====
abbrev S2048 : Shape := ⟨1, ![2048]⟩
abbrev S16x1x128 : Shape := ⟨3, ![16, 1, 128]⟩
abbrev S4096x4096 : Shape := ⟨2, ![4096, 4096]⟩
abbrev S16x2x128 : Shape := ⟨3, ![16, 2, 128]⟩
abbrev S1x1x128 : Shape := ⟨3, ![1, 1, 128]⟩
abbrev S256x4096 : Shape := ⟨2, ![256, 4096]⟩
abbrev S1x2x128 : Shape := ⟨3, ![1, 2, 128]⟩
abbrev S1x128 : Shape := ⟨2, ![1, 128]⟩
abbrev S1x64 : Shape := ⟨2, ![1, 64]⟩
abbrev S64 : Shape := ⟨1, ![64]⟩
abbrev S128 : Shape := ⟨1, ![128]⟩
abbrev S2x128 : Shape := ⟨2, ![2, 128]⟩
abbrev S128x128 : Shape := ⟨2, ![128, 128]⟩
abbrev S_ : Shape := ⟨0, ![]⟩
abbrev S16 : Shape := ⟨1, ![16]⟩
abbrev S1x16 : Shape := ⟨2, ![1, 16]⟩

abbrev nBuf : Table → Nat
  | .hbm => 7
  | .local .tc .vmem => 6
  | .local .scVector .vmem => 2
  | _ => 0

abbrev bufTy : (tb : Table) → Fin (nBuf tb) → BufTy
  | .hbm, ⟨0, _⟩ => ⟨S2048, .f32⟩
  | .hbm, ⟨1, _⟩ => ⟨S2048, .i32⟩
  | .hbm, ⟨2, _⟩ => ⟨S2048, .i32⟩
  | .hbm, ⟨3, _⟩ => ⟨S16x1x128, .f32⟩
  | .hbm, ⟨4, _⟩ => ⟨S4096x4096, .f32⟩
  | .hbm, ⟨5, _⟩ => ⟨S16x2x128, .f32⟩
  | .hbm, ⟨6, _⟩ => ⟨S4096x4096, .f32⟩
  | .local .tc .vmem, ⟨0, _⟩ => ⟨S1x1x128, .f32⟩
  | .local .tc .vmem, ⟨1, _⟩ => ⟨S1x1x128, .f32⟩
  | .local .tc .vmem, ⟨2, _⟩ => ⟨S256x4096, .f32⟩
  | .local .tc .vmem, ⟨3, _⟩ => ⟨S256x4096, .f32⟩
  | .local .tc .vmem, ⟨4, _⟩ => ⟨S1x2x128, .f32⟩
  | .local .tc .vmem, ⟨5, _⟩ => ⟨S1x2x128, .f32⟩
  | .local .scVector .vmem, ⟨0, _⟩ => ⟨S128, .f32⟩
  | .local .scVector .vmem, ⟨1, _⟩ => ⟨S128x128, .f32⟩
  | _, _ => ⟨S2048, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => false
  | ⟨7, _⟩ => false
  | _ => false

abbrev sig : RefSig :=
  ofTables nBuf rfl bufTy 4 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev main_v2 : Ref sig .tc := ⟨.hbm, 6, rfl⟩
abbrev main_v1_1_scv : Ref sig .scVector := ⟨.hbm, 5, rfl⟩
abbrev main_v2_scv : Ref sig .scVector := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_scratch0 : Ref sig .scVector := ⟨.vmem, 0, rfl⟩
abbrev cc1_scratch1 : Ref sig .scVector := ⟨.vmem, 1, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x2x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨2, ![2, 16], ![false, false]⟩

def k1_off1 (i : grid1.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32 : BitVec 32 := 1#32
  let v3 : BitVec 32 := Scalar.shrsi v1 c1_i32
  let c1_i32_0 : BitVec 32 := 1#32
  let v4 : BitVec 32 := Scalar.andi v1 c1_i32_0
  let c0_i32_83_r0 : BitVec 32 := 0#32
  ![v3.toNat, v4.toNat, 0]
@[reducible] def k1_t1_loop : Scf.Loop 32 :=
  let c0_i32_1 : BitVec 32 := 0#32
  let c128_i32_2 : BitVec 32 := 128#32
  let v5 : BitVec 32 := Scalar.addi c0_i32_1 c128_i32_2
  let c1_i32_3 : BitVec 32 := 1#32
  ⟨c0_i32_1, v5, c1_i32_3⟩
def k1_off2 (k1_t1 : Fin k1_t1_loop.trips) : Fin 2 → Nat :=
  let c0_i32_1 : BitVec 32 := 0#32
  let c1_i32_3 : BitVec 32 := 1#32
  let arg8 : BitVec 32 := Scf.iv c0_i32_1 c1_i32_3 k1_t1
  let v243 : Index := Scalar.indexCast arg8
  let c0 : Index := 0#32
  ![v243.toNat, 0]
def k1_off3 (k1_t1 : Fin k1_t1_loop.trips) : Fin 2 → Nat :=
  let c0_i32_1 : BitVec 32 := 0#32
  let c1_i32_3 : BitVec 32 := 1#32
  let arg8 : BitVec 32 := Scf.iv c0_i32_1 c1_i32_3 k1_t1
  let v246 : Index := Scalar.indexCast arg8
  let c16 : Index := 16#32
  ![v246.toNat, 16]
def k1_off4 (k1_t1 : Fin k1_t1_loop.trips) : Fin 2 → Nat :=
  let c0_i32_1 : BitVec 32 := 0#32
  let c1_i32_3 : BitVec 32 := 1#32
  let arg8 : BitVec 32 := Scf.iv c0_i32_1 c1_i32_3 k1_t1
  let v249 : Index := Scalar.indexCast arg8
  let c32 : Index := 32#32
  ![v249.toNat, 32]
def k1_off5 (k1_t1 : Fin k1_t1_loop.trips) : Fin 2 → Nat :=
  let c0_i32_1 : BitVec 32 := 0#32
  let c1_i32_3 : BitVec 32 := 1#32
  let arg8 : BitVec 32 := Scf.iv c0_i32_1 c1_i32_3 k1_t1
  let v252 : Index := Scalar.indexCast arg8
  let c48 : Index := 48#32
  ![v252.toNat, 48]
def k1_off6 (k1_t1 : Fin k1_t1_loop.trips) : Fin 2 → Nat :=
  let c0_i32_1 : BitVec 32 := 0#32
  let c1_i32_3 : BitVec 32 := 1#32
  let arg8 : BitVec 32 := Scf.iv c0_i32_1 c1_i32_3 k1_t1
  let v255 : Index := Scalar.indexCast arg8
  let c64 : Index := 64#32
  ![v255.toNat, 64]
def k1_off7 (k1_t1 : Fin k1_t1_loop.trips) : Fin 2 → Nat :=
  let c0_i32_1 : BitVec 32 := 0#32
  let c1_i32_3 : BitVec 32 := 1#32
  let arg8 : BitVec 32 := Scf.iv c0_i32_1 c1_i32_3 k1_t1
  let v258 : Index := Scalar.indexCast arg8
  let c80 : Index := 80#32
  ![v258.toNat, 80]
def k1_off8 (k1_t1 : Fin k1_t1_loop.trips) : Fin 2 → Nat :=
  let c0_i32_1 : BitVec 32 := 0#32
  let c1_i32_3 : BitVec 32 := 1#32
  let arg8 : BitVec 32 := Scf.iv c0_i32_1 c1_i32_3 k1_t1
  let v261 : Index := Scalar.indexCast arg8
  let c96 : Index := 96#32
  ![v261.toNat, 96]
def k1_off9 (k1_t1 : Fin k1_t1_loop.trips) : Fin 2 → Nat :=
  let c0_i32_1 : BitVec 32 := 0#32
  let c1_i32_3 : BitVec 32 := 1#32
  let arg8 : BitVec 32 := Scf.iv c0_i32_1 c1_i32_3 k1_t1
  let v264 : Index := Scalar.indexCast arg8
  let c112 : Index := 112#32
  ![v264.toNat, 112]

def k1_chk1 (v19 : IVec S16 32) : Prop :=
  (∀ a x, ((![v19] : Fin 1 → IVec S16 32) a x).toNat < S128.size a)
theorem k1_idx1_inb : ∀ (v19 : IVec S16 32) (k1_hw1 : k1_chk1 v19), ∀ a x, ((![v19] : Fin 1 → IVec S16 32) a x).toNat < S128.size a := fun v19 k1_hw1 => k1_hw1

def k1_chk2 (v8 : IVec S16 32) : Prop :=
  (∀ a x, ((![v8, v8] : Fin 2 → IVec S16 32) a x).toNat < S128x128.size a)
theorem k1_idx2_inb : ∀ (v8 : IVec S16 32) (k1_hw2 : k1_chk2 v8), ∀ a x, ((![v8, v8] : Fin 2 → IVec S16 32) a x).toNat < S128x128.size a := fun v8 k1_hw2 => k1_hw2

def k1_chk3 (v32 : IVec S16 32) : Prop :=
  (∀ a x, ((![v32] : Fin 1 → IVec S16 32) a x).toNat < S128.size a)
theorem k1_idx3_inb : ∀ (v32 : IVec S16 32) (k1_hw3 : k1_chk3 v32), ∀ a x, ((![v32] : Fin 1 → IVec S16 32) a x).toNat < S128.size a := fun v32 k1_hw3 => k1_hw3

def k1_chk4 (v8 : IVec S16 32) (v25 : IVec S16 32) : Prop :=
  (∀ a x, ((![v8, v25] : Fin 2 → IVec S16 32) a x).toNat < S128x128.size a)
theorem k1_idx4_inb : ∀ (v8 : IVec S16 32) (v25 : IVec S16 32) (k1_hw4 : k1_chk4 v8 v25), ∀ a x, ((![v8, v25] : Fin 2 → IVec S16 32) a x).toNat < S128x128.size a := fun v8 v25 k1_hw4 => k1_hw4

def k1_chk5 (v48 : IVec S16 32) : Prop :=
  (∀ a x, ((![v48] : Fin 1 → IVec S16 32) a x).toNat < S128.size a)
theorem k1_idx5_inb : ∀ (v48 : IVec S16 32) (k1_hw5 : k1_chk5 v48), ∀ a x, ((![v48] : Fin 1 → IVec S16 32) a x).toNat < S128.size a := fun v48 k1_hw5 => k1_hw5

def k1_chk6 (v37 : IVec S16 32) : Prop :=
  (∀ a x, ((![v37, v37] : Fin 2 → IVec S16 32) a x).toNat < S128x128.size a)
theorem k1_idx6_inb : ∀ (v37 : IVec S16 32) (k1_hw6 : k1_chk6 v37), ∀ a x, ((![v37, v37] : Fin 2 → IVec S16 32) a x).toNat < S128x128.size a := fun v37 k1_hw6 => k1_hw6

def k1_chk7 (v61 : IVec S16 32) : Prop :=
  (∀ a x, ((![v61] : Fin 1 → IVec S16 32) a x).toNat < S128.size a)
theorem k1_idx7_inb : ∀ (v61 : IVec S16 32) (k1_hw7 : k1_chk7 v61), ∀ a x, ((![v61] : Fin 1 → IVec S16 32) a x).toNat < S128.size a := fun v61 k1_hw7 => k1_hw7

def k1_chk8 (v37 : IVec S16 32) (v54 : IVec S16 32) : Prop :=
  (∀ a x, ((![v37, v54] : Fin 2 → IVec S16 32) a x).toNat < S128x128.size a)
theorem k1_idx8_inb : ∀ (v37 : IVec S16 32) (v54 : IVec S16 32) (k1_hw8 : k1_chk8 v37 v54), ∀ a x, ((![v37, v54] : Fin 2 → IVec S16 32) a x).toNat < S128x128.size a := fun v37 v54 k1_hw8 => k1_hw8

def k1_chk9 (v77 : IVec S16 32) : Prop :=
  (∀ a x, ((![v77] : Fin 1 → IVec S16 32) a x).toNat < S128.size a)
theorem k1_idx9_inb : ∀ (v77 : IVec S16 32) (k1_hw9 : k1_chk9 v77), ∀ a x, ((![v77] : Fin 1 → IVec S16 32) a x).toNat < S128.size a := fun v77 k1_hw9 => k1_hw9

def k1_chk10 (v66 : IVec S16 32) : Prop :=
  (∀ a x, ((![v66, v66] : Fin 2 → IVec S16 32) a x).toNat < S128x128.size a)
theorem k1_idx10_inb : ∀ (v66 : IVec S16 32) (k1_hw10 : k1_chk10 v66), ∀ a x, ((![v66, v66] : Fin 2 → IVec S16 32) a x).toNat < S128x128.size a := fun v66 k1_hw10 => k1_hw10

def k1_chk11 (v90 : IVec S16 32) : Prop :=
  (∀ a x, ((![v90] : Fin 1 → IVec S16 32) a x).toNat < S128.size a)
theorem k1_idx11_inb : ∀ (v90 : IVec S16 32) (k1_hw11 : k1_chk11 v90), ∀ a x, ((![v90] : Fin 1 → IVec S16 32) a x).toNat < S128.size a := fun v90 k1_hw11 => k1_hw11

def k1_chk12 (v66 : IVec S16 32) (v83 : IVec S16 32) : Prop :=
  (∀ a x, ((![v66, v83] : Fin 2 → IVec S16 32) a x).toNat < S128x128.size a)
theorem k1_idx12_inb : ∀ (v66 : IVec S16 32) (v83 : IVec S16 32) (k1_hw12 : k1_chk12 v66 v83), ∀ a x, ((![v66, v83] : Fin 2 → IVec S16 32) a x).toNat < S128x128.size a := fun v66 v83 k1_hw12 => k1_hw12

def k1_chk13 (v106 : IVec S16 32) : Prop :=
  (∀ a x, ((![v106] : Fin 1 → IVec S16 32) a x).toNat < S128.size a)
theorem k1_idx13_inb : ∀ (v106 : IVec S16 32) (k1_hw13 : k1_chk13 v106), ∀ a x, ((![v106] : Fin 1 → IVec S16 32) a x).toNat < S128.size a := fun v106 k1_hw13 => k1_hw13

def k1_chk14 (v95 : IVec S16 32) : Prop :=
  (∀ a x, ((![v95, v95] : Fin 2 → IVec S16 32) a x).toNat < S128x128.size a)
theorem k1_idx14_inb : ∀ (v95 : IVec S16 32) (k1_hw14 : k1_chk14 v95), ∀ a x, ((![v95, v95] : Fin 2 → IVec S16 32) a x).toNat < S128x128.size a := fun v95 k1_hw14 => k1_hw14

def k1_chk15 (v119 : IVec S16 32) : Prop :=
  (∀ a x, ((![v119] : Fin 1 → IVec S16 32) a x).toNat < S128.size a)
theorem k1_idx15_inb : ∀ (v119 : IVec S16 32) (k1_hw15 : k1_chk15 v119), ∀ a x, ((![v119] : Fin 1 → IVec S16 32) a x).toNat < S128.size a := fun v119 k1_hw15 => k1_hw15

def k1_chk16 (v95 : IVec S16 32) (v112 : IVec S16 32) : Prop :=
  (∀ a x, ((![v95, v112] : Fin 2 → IVec S16 32) a x).toNat < S128x128.size a)
theorem k1_idx16_inb : ∀ (v95 : IVec S16 32) (v112 : IVec S16 32) (k1_hw16 : k1_chk16 v95 v112), ∀ a x, ((![v95, v112] : Fin 2 → IVec S16 32) a x).toNat < S128x128.size a := fun v95 v112 k1_hw16 => k1_hw16

def k1_chk17 (v135 : IVec S16 32) : Prop :=
  (∀ a x, ((![v135] : Fin 1 → IVec S16 32) a x).toNat < S128.size a)
theorem k1_idx17_inb : ∀ (v135 : IVec S16 32) (k1_hw17 : k1_chk17 v135), ∀ a x, ((![v135] : Fin 1 → IVec S16 32) a x).toNat < S128.size a := fun v135 k1_hw17 => k1_hw17

def k1_chk18 (v124 : IVec S16 32) : Prop :=
  (∀ a x, ((![v124, v124] : Fin 2 → IVec S16 32) a x).toNat < S128x128.size a)
theorem k1_idx18_inb : ∀ (v124 : IVec S16 32) (k1_hw18 : k1_chk18 v124), ∀ a x, ((![v124, v124] : Fin 2 → IVec S16 32) a x).toNat < S128x128.size a := fun v124 k1_hw18 => k1_hw18

def k1_chk19 (v148 : IVec S16 32) : Prop :=
  (∀ a x, ((![v148] : Fin 1 → IVec S16 32) a x).toNat < S128.size a)
theorem k1_idx19_inb : ∀ (v148 : IVec S16 32) (k1_hw19 : k1_chk19 v148), ∀ a x, ((![v148] : Fin 1 → IVec S16 32) a x).toNat < S128.size a := fun v148 k1_hw19 => k1_hw19

def k1_chk20 (v124 : IVec S16 32) (v141 : IVec S16 32) : Prop :=
  (∀ a x, ((![v124, v141] : Fin 2 → IVec S16 32) a x).toNat < S128x128.size a)
theorem k1_idx20_inb : ∀ (v124 : IVec S16 32) (v141 : IVec S16 32) (k1_hw20 : k1_chk20 v124 v141), ∀ a x, ((![v124, v141] : Fin 2 → IVec S16 32) a x).toNat < S128x128.size a := fun v124 v141 k1_hw20 => k1_hw20

def k1_chk21 (v164 : IVec S16 32) : Prop :=
  (∀ a x, ((![v164] : Fin 1 → IVec S16 32) a x).toNat < S128.size a)
theorem k1_idx21_inb : ∀ (v164 : IVec S16 32) (k1_hw21 : k1_chk21 v164), ∀ a x, ((![v164] : Fin 1 → IVec S16 32) a x).toNat < S128.size a := fun v164 k1_hw21 => k1_hw21

def k1_chk22 (v153 : IVec S16 32) : Prop :=
  (∀ a x, ((![v153, v153] : Fin 2 → IVec S16 32) a x).toNat < S128x128.size a)
theorem k1_idx22_inb : ∀ (v153 : IVec S16 32) (k1_hw22 : k1_chk22 v153), ∀ a x, ((![v153, v153] : Fin 2 → IVec S16 32) a x).toNat < S128x128.size a := fun v153 k1_hw22 => k1_hw22

def k1_chk23 (v177 : IVec S16 32) : Prop :=
  (∀ a x, ((![v177] : Fin 1 → IVec S16 32) a x).toNat < S128.size a)
theorem k1_idx23_inb : ∀ (v177 : IVec S16 32) (k1_hw23 : k1_chk23 v177), ∀ a x, ((![v177] : Fin 1 → IVec S16 32) a x).toNat < S128.size a := fun v177 k1_hw23 => k1_hw23

def k1_chk24 (v153 : IVec S16 32) (v170 : IVec S16 32) : Prop :=
  (∀ a x, ((![v153, v170] : Fin 2 → IVec S16 32) a x).toNat < S128x128.size a)
theorem k1_idx24_inb : ∀ (v153 : IVec S16 32) (v170 : IVec S16 32) (k1_hw24 : k1_chk24 v153 v170), ∀ a x, ((![v153, v170] : Fin 2 → IVec S16 32) a x).toNat < S128x128.size a := fun v153 v170 k1_hw24 => k1_hw24

def k1_chk25 (v193 : IVec S16 32) : Prop :=
  (∀ a x, ((![v193] : Fin 1 → IVec S16 32) a x).toNat < S128.size a)
theorem k1_idx25_inb : ∀ (v193 : IVec S16 32) (k1_hw25 : k1_chk25 v193), ∀ a x, ((![v193] : Fin 1 → IVec S16 32) a x).toNat < S128.size a := fun v193 k1_hw25 => k1_hw25

def k1_chk26 (v182 : IVec S16 32) : Prop :=
  (∀ a x, ((![v182, v182] : Fin 2 → IVec S16 32) a x).toNat < S128x128.size a)
theorem k1_idx26_inb : ∀ (v182 : IVec S16 32) (k1_hw26 : k1_chk26 v182), ∀ a x, ((![v182, v182] : Fin 2 → IVec S16 32) a x).toNat < S128x128.size a := fun v182 k1_hw26 => k1_hw26

def k1_chk27 (v206 : IVec S16 32) : Prop :=
  (∀ a x, ((![v206] : Fin 1 → IVec S16 32) a x).toNat < S128.size a)
theorem k1_idx27_inb : ∀ (v206 : IVec S16 32) (k1_hw27 : k1_chk27 v206), ∀ a x, ((![v206] : Fin 1 → IVec S16 32) a x).toNat < S128.size a := fun v206 k1_hw27 => k1_hw27

def k1_chk28 (v182 : IVec S16 32) (v199 : IVec S16 32) : Prop :=
  (∀ a x, ((![v182, v199] : Fin 2 → IVec S16 32) a x).toNat < S128x128.size a)
theorem k1_idx28_inb : ∀ (v182 : IVec S16 32) (v199 : IVec S16 32) (k1_hw28 : k1_chk28 v182 v199), ∀ a x, ((![v182, v199] : Fin 2 → IVec S16 32) a x).toNat < S128x128.size a := fun v182 v199 k1_hw28 => k1_hw28

def k1_chk29 (v222 : IVec S16 32) : Prop :=
  (∀ a x, ((![v222] : Fin 1 → IVec S16 32) a x).toNat < S128.size a)
theorem k1_idx29_inb : ∀ (v222 : IVec S16 32) (k1_hw29 : k1_chk29 v222), ∀ a x, ((![v222] : Fin 1 → IVec S16 32) a x).toNat < S128.size a := fun v222 k1_hw29 => k1_hw29

def k1_chk30 (v211 : IVec S16 32) : Prop :=
  (∀ a x, ((![v211, v211] : Fin 2 → IVec S16 32) a x).toNat < S128x128.size a)
theorem k1_idx30_inb : ∀ (v211 : IVec S16 32) (k1_hw30 : k1_chk30 v211), ∀ a x, ((![v211, v211] : Fin 2 → IVec S16 32) a x).toNat < S128x128.size a := fun v211 k1_hw30 => k1_hw30

def k1_chk31 (v235 : IVec S16 32) : Prop :=
  (∀ a x, ((![v235] : Fin 1 → IVec S16 32) a x).toNat < S128.size a)
theorem k1_idx31_inb : ∀ (v235 : IVec S16 32) (k1_hw31 : k1_chk31 v235), ∀ a x, ((![v235] : Fin 1 → IVec S16 32) a x).toNat < S128.size a := fun v235 k1_hw31 => k1_hw31

def k1_chk32 (v211 : IVec S16 32) (v228 : IVec S16 32) : Prop :=
  (∀ a x, ((![v211, v228] : Fin 2 → IVec S16 32) a x).toNat < S128x128.size a)
theorem k1_idx32_inb : ∀ (v211 : IVec S16 32) (v228 : IVec S16 32) (k1_hw32 : k1_chk32 v211 v228), ∀ a x, ((![v211, v228] : Fin 2 → IVec S16 32) a x).toNat < S128x128.size a := fun v211 v228 k1_hw32 => k1_hw32
def k1_off10 (i : grid1.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  ![v2.toNat, v2.toNat]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S2048 : Shape := ⟨1, ![2048]⟩
abbrev S4096x4096 : Shape := ⟨2, ![4096, 4096]⟩
abbrev S_ : Shape := ⟨0, ![]⟩
abbrev S2048x1 : Shape := ⟨2, ![2048, 1]⟩
abbrev S2048x2 : Shape := ⟨2, ![2048, 2]⟩

abbrev nBuf : Space → Nat
  | .hbm => 85
  | .vmem => 0
  | .smem => 0
  | _ => 0

abbrev bufTy : (tb : Table) → Fin (tcTables nBuf tb) → BufTy
  | .hbm, ⟨0, _⟩ => ⟨S2048, .f32⟩
  | .hbm, ⟨1, _⟩ => ⟨S2048, .i32⟩
  | .hbm, ⟨2, _⟩ => ⟨S2048, .i32⟩
  | .hbm, ⟨3, _⟩ => ⟨S2048, .f32⟩
  | .hbm, ⟨4, _⟩ => ⟨S2048, .f32⟩
  | .hbm, ⟨5, _⟩ => ⟨S4096x4096, .i32⟩
  | .hbm, ⟨6, _⟩ => ⟨S4096x4096, .i32⟩
  | .hbm, ⟨7, _⟩ => ⟨S_, .i32⟩
  | .hbm, ⟨8, _⟩ => ⟨S4096x4096, .i32⟩
  | .hbm, ⟨9, _⟩ => ⟨S4096x4096, .i32⟩
  | .hbm, ⟨10, _⟩ => ⟨S4096x4096, .i1⟩
  | .hbm, ⟨11, _⟩ => ⟨S4096x4096, .f32⟩
  | .hbm, ⟨12, _⟩ => ⟨S_, .i32⟩
  | .hbm, ⟨13, _⟩ => ⟨S2048, .i32⟩
  | .hbm, ⟨14, _⟩ => ⟨S2048, .i1⟩
  | .hbm, ⟨15, _⟩ => ⟨S_, .i32⟩
  | .hbm, ⟨16, _⟩ => ⟨S2048, .i32⟩
  | .hbm, ⟨17, _⟩ => ⟨S2048, .i32⟩
  | .hbm, ⟨18, _⟩ => ⟨S2048, .i32⟩
  | .hbm, ⟨19, _⟩ => ⟨S_, .i32⟩
  | .hbm, ⟨20, _⟩ => ⟨S2048, .i32⟩
  | .hbm, ⟨21, _⟩ => ⟨S2048, .i1⟩
  | .hbm, ⟨22, _⟩ => ⟨S_, .i32⟩
  | .hbm, ⟨23, _⟩ => ⟨S2048, .i32⟩
  | .hbm, ⟨24, _⟩ => ⟨S2048, .i32⟩
  | .hbm, ⟨25, _⟩ => ⟨S2048, .i32⟩
  | .hbm, ⟨26, _⟩ => ⟨S2048x1, .i32⟩
  | .hbm, ⟨27, _⟩ => ⟨S2048x1, .i32⟩
  | .hbm, ⟨28, _⟩ => ⟨S2048x2, .i32⟩
  | .hbm, ⟨29, _⟩ => ⟨S4096x4096, .f32⟩
  | .hbm, ⟨30, _⟩ => ⟨S_, .i32⟩
  | .hbm, ⟨31, _⟩ => ⟨S2048, .i32⟩
  | .hbm, ⟨32, _⟩ => ⟨S2048, .i1⟩
  | .hbm, ⟨33, _⟩ => ⟨S_, .i32⟩
  | .hbm, ⟨34, _⟩ => ⟨S2048, .i32⟩
  | .hbm, ⟨35, _⟩ => ⟨S2048, .i32⟩
  | .hbm, ⟨36, _⟩ => ⟨S2048, .i32⟩
  | .hbm, ⟨37, _⟩ => ⟨S_, .i32⟩
  | .hbm, ⟨38, _⟩ => ⟨S2048, .i32⟩
  | .hbm, ⟨39, _⟩ => ⟨S2048, .i1⟩
  | .hbm, ⟨40, _⟩ => ⟨S_, .i32⟩
  | .hbm, ⟨41, _⟩ => ⟨S2048, .i32⟩
  | .hbm, ⟨42, _⟩ => ⟨S2048, .i32⟩
  | .hbm, ⟨43, _⟩ => ⟨S2048, .i32⟩
  | .hbm, ⟨44, _⟩ => ⟨S2048x1, .i32⟩
  | .hbm, ⟨45, _⟩ => ⟨S2048x1, .i32⟩
  | .hbm, ⟨46, _⟩ => ⟨S2048x2, .i32⟩
  | .hbm, ⟨47, _⟩ => ⟨S4096x4096, .f32⟩
  | .hbm, ⟨48, _⟩ => ⟨S2048, .f32⟩
  | .hbm, ⟨49, _⟩ => ⟨S_, .i32⟩
  | .hbm, ⟨50, _⟩ => ⟨S2048, .i32⟩
  | .hbm, ⟨51, _⟩ => ⟨S2048, .i1⟩
  | .hbm, ⟨52, _⟩ => ⟨S_, .i32⟩
  | .hbm, ⟨53, _⟩ => ⟨S2048, .i32⟩
  | .hbm, ⟨54, _⟩ => ⟨S2048, .i32⟩
  | .hbm, ⟨55, _⟩ => ⟨S2048, .i32⟩
  | .hbm, ⟨56, _⟩ => ⟨S_, .i32⟩
  | .hbm, ⟨57, _⟩ => ⟨S2048, .i32⟩
  | .hbm, ⟨58, _⟩ => ⟨S2048, .i1⟩
  | .hbm, ⟨59, _⟩ => ⟨S_, .i32⟩
  | .hbm, ⟨60, _⟩ => ⟨S2048, .i32⟩
  | .hbm, ⟨61, _⟩ => ⟨S2048, .i32⟩
  | .hbm, ⟨62, _⟩ => ⟨S2048, .i32⟩
  | .hbm, ⟨63, _⟩ => ⟨S2048x1, .i32⟩
  | .hbm, ⟨64, _⟩ => ⟨S2048x1, .i32⟩
  | .hbm, ⟨65, _⟩ => ⟨S2048x2, .i32⟩
  | .hbm, ⟨66, _⟩ => ⟨S4096x4096, .f32⟩
  | .hbm, ⟨67, _⟩ => ⟨S_, .i32⟩
  | .hbm, ⟨68, _⟩ => ⟨S2048, .i32⟩
  | .hbm, ⟨69, _⟩ => ⟨S2048, .i1⟩
  | .hbm, ⟨70, _⟩ => ⟨S_, .i32⟩
  | .hbm, ⟨71, _⟩ => ⟨S2048, .i32⟩
  | .hbm, ⟨72, _⟩ => ⟨S2048, .i32⟩
  | .hbm, ⟨73, _⟩ => ⟨S2048, .i32⟩
  | .hbm, ⟨74, _⟩ => ⟨S_, .i32⟩
  | .hbm, ⟨75, _⟩ => ⟨S2048, .i32⟩
  | .hbm, ⟨76, _⟩ => ⟨S2048, .i1⟩
  | .hbm, ⟨77, _⟩ => ⟨S_, .i32⟩
  | .hbm, ⟨78, _⟩ => ⟨S2048, .i32⟩
  | .hbm, ⟨79, _⟩ => ⟨S2048, .i32⟩
  | .hbm, ⟨80, _⟩ => ⟨S2048, .i32⟩
  | .hbm, ⟨81, _⟩ => ⟨S2048x1, .i32⟩
  | .hbm, ⟨82, _⟩ => ⟨S2048x1, .i32⟩
  | .hbm, ⟨83, _⟩ => ⟨S2048x2, .i32⟩
  | .hbm, ⟨84, _⟩ => ⟨S4096x4096, .f32⟩
  | _, _ => ⟨S2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_c : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_c_0 : Ref sig .tc := ⟨.hbm, 12, rfl⟩
abbrev main_v8 : Ref sig .tc := ⟨.hbm, 13, rfl⟩
abbrev main_v9 : Ref sig .tc := ⟨.hbm, 14, rfl⟩
abbrev main_c_1 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_c_2 : Ref sig .tc := ⟨.hbm, 19, rfl⟩
abbrev main_v13 : Ref sig .tc := ⟨.hbm, 20, rfl⟩
abbrev main_v14 : Ref sig .tc := ⟨.hbm, 21, rfl⟩
abbrev main_c_3 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_c_4 : Ref sig .tc := ⟨.hbm, 30, rfl⟩
abbrev main_v22 : Ref sig .tc := ⟨.hbm, 31, rfl⟩
abbrev main_v23 : Ref sig .tc := ⟨.hbm, 32, rfl⟩
abbrev main_c_5 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_c_6 : Ref sig .tc := ⟨.hbm, 37, rfl⟩
abbrev main_v27 : Ref sig .tc := ⟨.hbm, 38, rfl⟩
abbrev main_v28 : Ref sig .tc := ⟨.hbm, 39, rfl⟩
abbrev main_c_7 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_c_8 : Ref sig .tc := ⟨.hbm, 49, rfl⟩
abbrev main_v37 : Ref sig .tc := ⟨.hbm, 50, rfl⟩
abbrev main_v38 : Ref sig .tc := ⟨.hbm, 51, rfl⟩
abbrev main_c_9 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_c_10 : Ref sig .tc := ⟨.hbm, 56, rfl⟩
abbrev main_v42 : Ref sig .tc := ⟨.hbm, 57, rfl⟩
abbrev main_v43 : Ref sig .tc := ⟨.hbm, 58, rfl⟩
abbrev main_c_11 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_c_12 : Ref sig .tc := ⟨.hbm, 67, rfl⟩
abbrev main_v51 : Ref sig .tc := ⟨.hbm, 68, rfl⟩
abbrev main_v52 : Ref sig .tc := ⟨.hbm, 69, rfl⟩
abbrev main_c_13 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_c_14 : Ref sig .tc := ⟨.hbm, 74, rfl⟩
abbrev main_v56 : Ref sig .tc := ⟨.hbm, 75, rfl⟩
abbrev main_v57 : Ref sig .tc := ⟨.hbm, 76, rfl⟩
abbrev main_c_15 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩

abbrev nD : Nat := 1
abbrev τ : Topo := Topo.v7x

variable {F : FTy → Type} [FloatOps F]
-- ==== Proof.TileValue.lean ====
/- What one vector subcore's 16-lane scatters leave in its 128×128 block. The block starts at zero;
   phase t handles rows 16t … 16t+15: it scatters the cosines of those rows on the diagonal, then the
   signed sines into the column 32 away. `rows n m v` is the block once the cosines of rows below n
   and the sines of rows below m are in, `v` being the subcore's row of 64 cosines and 64 sines. -/
module

public import proofs.«01_k».proof.Proof.Gen.KernelIdeal.Skeleton

@[expose] public section

noncomputable section

namespace Cert.KernelIdeal.Tile

open Idealize.ShloMosaic Cert.KernelIdeal.Gen

variable {F : FTy → Type} [FloatOps F]

/-! ## An indexed store whose lanes name different elements -/

section StoreIdx

/-- Lanes that do not name `j` leave it as it was. -/
theorem storeIdx_miss {s : Shape} {d : Fin 1 → Nat} {e : EltTy} (f : Vec F s e)
    (idxs : Fin s.rank → IVec ⟨1, d⟩ 32) (v : Vec F ⟨1, d⟩ e)
    (h : ∀ a x, (idxs a x).toNat < s.size a) (j : s.Idx)
    (hj : ∀ k : Fin (d 0), ¬ ∀ a, (j a).val = (idxs a (Shape.ofLane k)).toNat) :
    storeIdx f idxs v (fun _ => 1#1) false h j = f j := by
  unfold storeIdx
  generalize List.finRange (d 0) = l
  induction l generalizing f with
  | nil => rfl
  | cons k l ih =>
    rw [List.foldl_cons, ih]
    simp only [if_true]
    exact if_neg (hj k)

/-- The one lane that names `j` puts its value there. -/
theorem storeIdx_hit {s : Shape} {d : Fin 1 → Nat} {e : EltTy} (f : Vec F s e)
    (idxs : Fin s.rank → IVec ⟨1, d⟩ 32) (v : Vec F ⟨1, d⟩ e)
    (h : ∀ a x, (idxs a x).toNat < s.size a) (j : s.Idx) (k₀ : Fin (d 0))
    (hk : ∀ a, (j a).val = (idxs a (Shape.ofLane k₀)).toNat)
    (hj : ∀ k : Fin (d 0), (∀ a, (j a).val = (idxs a (Shape.ofLane k)).toNat) → k = k₀) :
    storeIdx f idxs v (fun _ => 1#1) false h j = v (Shape.ofLane k₀) := by
  have hl : k₀ ∈ List.finRange (d 0) ∨ f j = v (Shape.ofLane k₀) := Or.inl (List.mem_finRange k₀)
  unfold storeIdx
  generalize List.finRange (d 0) = l at hl ⊢
  induction l generalizing f with
  | nil => exact hl.resolve_left List.not_mem_nil
  | cons k l ih =>
    rw [List.foldl_cons]
    refine ih _ ?_
    simp only [if_true]
    by_cases hkk : k = k₀
    · subst hkk; exact Or.inr (if_pos hk)
    · rcases hl with hl | hl
      · exact Or.inl ((List.mem_cons.1 hl).resolve_left (Ne.symm hkk))
      · exact Or.inr ((if_neg (fun hh => hkk (hj k hh))).trans hl)

end StoreIdx

/-! ## The block's contents -/

/-- The angle a block's row uses: rows `64p + 32h + q` use angle `32p + q`. -/
def lN (r : ℕ) : ℕ := (r / 64) * 32 + r % 32
/-- The column of a row's off-diagonal entry: the row's partner, 32 further or 32 back. -/
def colN (r : ℕ) : ℕ := r + 32 - 64 * ((r / 32) % 2)
/-- The sign of a row's sine, as a word: `-1` for the first 32 rows of each 64, `1` for the others. -/
def sgnW (r : ℕ) : BitVec 32 := if (r / 32) % 2 = 1 then 1#32 else 4294967295#32

/-- Element `n` of a row of 128. -/
def vAt (v : Vec F S128 .f32) (n : ℕ) : F .f32 :=
  v (Shape.ofLane (d := ![128]) ⟨n % 128, Nat.mod_lt _ (by decide)⟩)

/-- A sine with its sign, as the subcore computes it: a product with the converted sign word. -/
def sgnMul (a : F .f32) (w : BitVec 32) : F .f32 := FloatOps.mulf a (FloatOps.sitofp .f32 w)

/-- The zero the block is cleared to. -/
def zero : F .f32 := Scalar.ofBits .f32 0x00000000#32

/-- The block with the cosines of its first `n` rows and the sines of its first `m` rows in. -/
def rows (n m : ℕ) (v : Vec F S128 .f32) : Vec F S128x128 .f32 := fun x =>
  if (x 1).val = (x 0).val then
    (if (x 0).val < n then vAt v (lN (x 0).val) else zero)
  else if (x 1).val = colN (x 0).val then
    (if (x 0).val < m then sgnMul (vAt v (64 + lN (x 0).val)) (sgnW (x 0).val) else zero)
  else zero

/-- The finished block. -/
def tileVal (v : Vec F S128 .f32) : Vec F S128x128 .f32 := rows 128 128 v

/-- A row's partner column is not on the diagonal. -/
theorem colN_ne (r : ℕ) : colN r ≠ r := by unfold colN; omega

/-- One phase's indexed read and store of cosines. -/
theorem store_cos (n : ℕ) (o l : IVec S16 32) (v : Vec F S128 .f32)
    (ho : ∀ k : Fin 16, (o (Shape.ofLane (d := ![16]) k)).toNat = n + k.val)
    (hl : ∀ k : Fin 16, (l (Shape.ofLane (d := ![16]) k)).toNat = lN (n + k.val))
    (h₁ : ∀ a x, ((![l] : Fin 1 → IVec S16 32) a x).toNat < S128.size a)
    (h₂ : ∀ a x, ((![o, o] : Fin 2 → IVec S16 32) a x).toNat < S128x128.size a) :
    storeIdx (rows n n v) ![o, o] (loadIdx v ![l] h₁) (fun _ => 1#1) false h₂ = rows (n + 16) n v := by
  funext j
  have h16 : (![16] : Fin 1 → ℕ) 0 = 16 := rfl
  by_cases hj : (j 1).val = (j 0).val ∧ n ≤ (j 0).val ∧ (j 0).val < n + 16
  · obtain ⟨h10, hn, hn'⟩ := hj
    have hk : (j 0).val = n + ((j 0).val - n) := by omega
    rw [storeIdx_hit (s := S128x128) (d := ![16]) _ _ _ h₂ j (⟨(j 0).val - n, by rw [h16]; omega⟩ : Fin (![16] 0))]
    · show v _ = _
      unfold rows
      rw [if_pos h10, if_pos hn']
      unfold vAt
      congr 1
      funext a
      match a with
      | 0 =>
        refine Fin.ext ?_
        show (l (Shape.ofLane _)).toNat = lN (j 0).val % 128
        have := hl ⟨(j 0).val - n, by omega⟩
        have hlt := h₁ 0 (Shape.ofLane (d := ![16]) ⟨(j 0).val - n, by rw [h16]; omega⟩)
        simp only [← hk] at this
        rw [Nat.mod_eq_of_lt]
        · exact this
        · rw [← this]; exact hlt
    · intro a
      match a with
      | 0 => exact hk.trans (ho ⟨(j 0).val - n, by omega⟩).symm
      | 1 => exact (h10.trans hk).trans (ho ⟨(j 0).val - n, by omega⟩).symm
    · intro k hkk
      have := (hkk 0).trans (ho k)
      exact Fin.ext (by show k.val = (j 0).val - n; omega)
  · rw [storeIdx_miss (s := S128x128) (d := ![16])]
    · unfold rows
      by_cases h10 : (j 1).val = (j 0).val
      · rw [if_pos h10, if_pos h10]
        by_cases hlt : (j 0).val < n
        · rw [if_pos hlt, if_pos (by omega)]
        · rw [if_neg hlt, if_neg (by intro h; exact hj ⟨h10, by omega, h⟩)]
      · rw [if_neg h10, if_neg h10]
    · intro k hk
      have e0 := (hk 0).trans (ho k)
      have e1 := (hk 1).trans (ho k)
      have hk16 : k.val < 16 := k.isLt
      exact hj ⟨by omega, by omega, by omega⟩

/-- One phase's indexed read of sines and store of the signed sines. -/
theorem store_sin (n : ℕ) (o c l : IVec S16 32) (v : Vec F S128 .f32) (w : Vec F S16 .f32)
    (ho : ∀ k : Fin 16, (o (Shape.ofLane (d := ![16]) k)).toNat = n + k.val)
    (hc : ∀ k : Fin 16, (c (Shape.ofLane (d := ![16]) k)).toNat = colN (n + k.val))
    (hl : ∀ k : Fin 16, (l (Shape.ofLane (d := ![16]) k)).toNat = 64 + lN (n + k.val))
    (h₁ : ∀ a x, ((![l] : Fin 1 → IVec S16 32) a x).toNat < S128.size a)
    (h₂ : ∀ a x, ((![o, c] : Fin 2 → IVec S16 32) a x).toNat < S128x128.size a)
    (hw : ∀ k : Fin 16, w (Shape.ofLane (d := ![16]) k)
      = sgnMul (loadIdx v ![l] h₁ (Shape.ofLane (d := ![16]) k)) (sgnW (n + k.val))) :
    storeIdx (rows (n + 16) n v) ![o, c] w (fun _ => 1#1) false h₂ = rows (n + 16) (n + 16) v := by
  funext j
  have h16 : (![16] : Fin 1 → ℕ) 0 = 16 := rfl
  by_cases hj : (j 1).val = colN (j 0).val ∧ n ≤ (j 0).val ∧ (j 0).val < n + 16
  · obtain ⟨h10, hn, hn'⟩ := hj
    have hk : (j 0).val = n + ((j 0).val - n) := by omega
    rw [storeIdx_hit (s := S128x128) (d := ![16]) _ _ _ h₂ j (⟨(j 0).val - n, by rw [h16]; omega⟩ : Fin (![16] 0))]
    · refine (hw ⟨(j 0).val - n, by omega⟩).trans ?_
      unfold rows
      rw [if_neg (by rw [h10]; exact colN_ne _), if_pos h10, if_pos hn']
      simp only [← hk]
      congr 1
      show v _ = _
      unfold vAt
      congr 1
      funext a
      match a with
      | 0 =>
        refine Fin.ext ?_
        show (l (Shape.ofLane _)).toNat = (64 + lN (j 0).val) % 128
        have := hl ⟨(j 0).val - n, by omega⟩
        have hlt := h₁ 0 (Shape.ofLane (d := ![16]) ⟨(j 0).val - n, by rw [h16]; omega⟩)
        simp only [← hk] at this
        rw [Nat.mod_eq_of_lt]
        · exact this
        · rw [← this]; exact hlt
    · intro a
      match a with
      | 0 => exact hk.trans (ho ⟨(j 0).val - n, by omega⟩).symm
      | 1 => exact (h10.trans (congrArg colN hk)).trans (hc ⟨(j 0).val - n, by omega⟩).symm
    · intro k hkk
      have := (hkk 0).trans (ho k)
      exact Fin.ext (by show k.val = (j 0).val - n; omega)
  · rw [storeIdx_miss (s := S128x128) (d := ![16])]
    · unfold rows
      by_cases h10 : (j 1).val = (j 0).val
      · rw [if_pos h10, if_pos h10]
      · rw [if_neg h10, if_neg h10]
        by_cases h1c : (j 1).val = colN (j 0).val
        · rw [if_pos h1c, if_pos h1c]
          by_cases hlt : (j 0).val < n
          · rw [if_pos hlt, if_pos (by omega)]
          · rw [if_neg hlt, if_neg (by intro h; exact hj ⟨h1c, by omega, h⟩)]
        · rw [if_neg h1c, if_neg h1c]
    · intro k hk
      have e0 := (hk 0).trans (ho k)
      have e1 := (hk 1).trans (hc k)
      have hk16 : k.val < 16 := k.isLt
      exact hj ⟨by rw [e0]; exact e1, by omega, by omega⟩

/-- A bound on every lane from the lanes' values. -/
theorem inb1 (l : IVec S16 32) (b : Fin 16 → ℕ)
    (hl : ∀ k : Fin 16, (l (Shape.ofLane (d := ![16]) k)).toNat = b k) (hb : ∀ k, b k < 128) :
    ∀ a x, ((![l] : Fin 1 → IVec S16 32) a x).toNat < S128.size a := by
  intro a x
  match a with
  | 0 =>
    have hx : x = Shape.ofLane (d := ![16]) (x 0) := by funext a; match a with | 0 => rfl
    show (l x).toNat < 128
    rw [hx]
    exact (hl _).trans_lt (hb _)

/-- The same, for a pair of index vectors. -/
theorem inb2 (o c : IVec S16 32) (b b' : Fin 16 → ℕ)
    (ho : ∀ k : Fin 16, (o (Shape.ofLane (d := ![16]) k)).toNat = b k)
    (hc : ∀ k : Fin 16, (c (Shape.ofLane (d := ![16]) k)).toNat = b' k)
    (hb : ∀ k, b k < 128) (hb' : ∀ k, b' k < 128) :
    ∀ a x, ((![o, c] : Fin 2 → IVec S16 32) a x).toNat < S128x128.size a := by
  intro a x
  match a with
  | 0 => exact inb1 o b ho hb 0 x
  | 1 => exact inb1 c b' hc hb' 0 x

/-- Row indices stay inside the block. -/
theorem row_lt (t : ℕ) (ht : t < 8) (k : Fin 16) : 16 * t + k.val < 128 := by omega
/-- The angles' indices stay inside the row's first half. -/
theorem lN_lt (t : ℕ) (ht : t < 8) (k : Fin 16) : lN (16 * t + k.val) < 128 := by unfold lN; omega
/-- The sines' indices stay inside the row. -/
theorem lN_lt' (t : ℕ) (ht : t < 8) (k : Fin 16) : 64 + lN (16 * t + k.val) < 128 := by
  unfold lN; omega
/-- The partner columns stay inside the block. -/
theorem colN_lt (t : ℕ) (ht : t < 8) (k : Fin 16) : colN (16 * t + k.val) < 128 := by
  unfold colN; omega

/-- A cleared block is the block with no row in. -/
theorem rows_zero (v : Vec F S128 .f32) : rows 0 0 v = fun _ => zero := by
  funext x; unfold rows; simp

end Cert.KernelIdeal.Tile
-- ==== Proof.Phases.lean ====
/- The index vectors of the eight phases of a vector subcore's scatters, lane by lane: the rows, the
   angles' places, the partner columns and the sines' places; that each names a place inside its
   buffer; and the two stores of each phase, from the block with the rows below `16t` in to the block
   with the rows below `16t + 16` in. -/
module

public import proofs.«01_k».proof.Proof.TileValue

@[expose] public section

noncomputable section

namespace Cert.KernelIdeal.Tile

open Idealize.ShloMosaic Cert.KernelIdeal.Gen

variable {F : FTy → Type} [FloatOps F]

/-- Lane `k` of a 16-lane vector. -/
abbrev lane (k : Fin 16) : S16.Idx := Shape.ofLane (d := ![16]) k

/-! ## Phase 0: rows 0 to 15 -/

/-- The rows of phase 0's lanes. -/
theorem o0 : ∀ k : Fin 16, (k1_pay14 (lane k)).toNat = 16 * 0 + k.val := by decide +kernel
/-- Where phase 0's lanes read their cosines. -/
theorem l0 : ∀ k : Fin 16, (k1_pay16 k1_pay14 (lane k)).toNat = lN (16 * 0 + k.val) := by decide +kernel
/-- The partner columns of phase 0's lanes. -/
theorem c0 : ∀ k : Fin 16, (k1_pay18 (k1_pay15 k1_pay14) (k1_pay17 k1_pay14) 6#32 (lane k)).toNat = colN (16 * 0 + k.val) := by decide +kernel
/-- Where phase 0's lanes read their sines. -/
theorem s0 : ∀ k : Fin 16, (k1_pay19 (k1_pay16 k1_pay14) (lane k)).toNat = 64 + lN (16 * 0 + k.val) := by
  decide +kernel
/-- The sign words of the phase's lanes. -/
theorem g0 : ∀ k : Fin 16, (subi (muli (broadcast S16 2#32) (k1_pay15 k1_pay14)) (broadcast S16 1#32)) (lane k)
    = sgnW (16 * 0 + k.val) := by decide +kernel
/-- The signed sines: each lane's operand with its row's sign. -/
theorem w0 (x : Vec F S16 .f32) (k : Fin 16) :
    (k1_pay20 (k1_pay15 k1_pay14) x) (lane k) = sgnMul (x (lane k)) (sgnW (16 * 0 + k.val)) := by
  rw [← g0 k]; rfl
/-- Phase 0's cosine reads stay in bounds. -/
theorem chk1 : k1_chk1 (k1_pay16 k1_pay14) := inb1 _ _ l0 (lN_lt 0 (by decide))
/-- Phase 0's cosine writes stay in bounds. -/
theorem chk2 : k1_chk2 k1_pay14 := inb2 _ _ _ _ o0 o0 (row_lt 0 (by decide)) (row_lt 0 (by decide))
/-- Phase 0's sine reads stay in bounds. -/
theorem chk3 : k1_chk3 (k1_pay19 (k1_pay16 k1_pay14)) := inb1 _ _ s0 (lN_lt' 0 (by decide))
/-- Phase 0's sine writes stay in bounds. -/
theorem chk4 : k1_chk4 k1_pay14 (k1_pay18 (k1_pay15 k1_pay14) (k1_pay17 k1_pay14) 6#32) := inb2 _ _ _ _ o0 c0 (row_lt 0 (by decide)) (colN_lt 0 (by decide))

/-! ## Phase 1: rows 16 to 31 -/

/-- The rows of phase 1's lanes. -/
theorem o1 : ∀ k : Fin 16, (k1_pay21 (lane k)).toNat = 16 * 1 + k.val := by decide +kernel
/-- Where phase 1's lanes read their cosines. -/
theorem l1 : ∀ k : Fin 16, (k1_pay23 k1_pay21 (lane k)).toNat = lN (16 * 1 + k.val) := by decide +kernel
/-- The partner columns of phase 1's lanes. -/
theorem c1 : ∀ k : Fin 16, (k1_pay24 k1_pay21 (lane k)).toNat = colN (16 * 1 + k.val) := by decide +kernel
/-- Where phase 1's lanes read their sines. -/
theorem s1 : ∀ k : Fin 16, (k1_pay26 (k1_pay23 k1_pay21) (lane k)).toNat = 64 + lN (16 * 1 + k.val) := by
  decide +kernel
/-- The sign words of the phase's lanes. -/
theorem g1 : ∀ k : Fin 16, (subi (muli (broadcast S16 2#32) (k1_pay22 k1_pay21)) (broadcast S16 1#32)) (lane k)
    = sgnW (16 * 1 + k.val) := by decide +kernel
/-- The signed sines: each lane's operand with its row's sign. -/
theorem w1 (x : Vec F S16 .f32) (k : Fin 16) :
    (k1_pay27 (k1_pay25 k1_pay21) x) (lane k) = sgnMul (x (lane k)) (sgnW (16 * 1 + k.val)) := by
  rw [← g1 k]; rfl
/-- Phase 1's cosine reads stay in bounds. -/
theorem chk5 : k1_chk5 (k1_pay23 k1_pay21) := inb1 _ _ l1 (lN_lt 1 (by decide))
/-- Phase 1's cosine writes stay in bounds. -/
theorem chk6 : k1_chk6 k1_pay21 := inb2 _ _ _ _ o1 o1 (row_lt 1 (by decide)) (row_lt 1 (by decide))
/-- Phase 1's sine reads stay in bounds. -/
theorem chk7 : k1_chk7 (k1_pay26 (k1_pay23 k1_pay21)) := inb1 _ _ s1 (lN_lt' 1 (by decide))
/-- Phase 1's sine writes stay in bounds. -/
theorem chk8 : k1_chk8 k1_pay21 (k1_pay24 k1_pay21) := inb2 _ _ _ _ o1 c1 (row_lt 1 (by decide)) (colN_lt 1 (by decide))

/-! ## Phase 2: rows 32 to 47 -/

/-- The rows of phase 2's lanes. -/
theorem o2 : ∀ k : Fin 16, (k1_pay28 (lane k)).toNat = 16 * 2 + k.val := by decide +kernel
/-- Where phase 2's lanes read their cosines. -/
theorem l2 : ∀ k : Fin 16, (k1_pay30 k1_pay28 (lane k)).toNat = lN (16 * 2 + k.val) := by decide +kernel
/-- The partner columns of phase 2's lanes. -/
theorem c2 : ∀ k : Fin 16, (k1_pay31 k1_pay28 (lane k)).toNat = colN (16 * 2 + k.val) := by decide +kernel
/-- Where phase 2's lanes read their sines. -/
theorem s2 : ∀ k : Fin 16, (k1_pay32 (k1_pay30 k1_pay28) (lane k)).toNat = 64 + lN (16 * 2 + k.val) := by
  decide +kernel
/-- The sign words of the phase's lanes. -/
theorem g2 : ∀ k : Fin 16, (subi (muli (broadcast S16 2#32) (k1_pay29 k1_pay28)) (broadcast S16 1#32)) (lane k)
    = sgnW (16 * 2 + k.val) := by decide +kernel
/-- The signed sines: each lane's operand with its row's sign. -/
theorem w2 (x : Vec F S16 .f32) (k : Fin 16) :
    (k1_pay33 k1_pay28 x) (lane k) = sgnMul (x (lane k)) (sgnW (16 * 2 + k.val)) := by
  rw [← g2 k]; rfl
/-- Phase 2's cosine reads stay in bounds. -/
theorem chk9 : k1_chk9 (k1_pay30 k1_pay28) := inb1 _ _ l2 (lN_lt 2 (by decide))
/-- Phase 2's cosine writes stay in bounds. -/
theorem chk10 : k1_chk10 k1_pay28 := inb2 _ _ _ _ o2 o2 (row_lt 2 (by decide)) (row_lt 2 (by decide))
/-- Phase 2's sine reads stay in bounds. -/
theorem chk11 : k1_chk11 (k1_pay32 (k1_pay30 k1_pay28)) := inb1 _ _ s2 (lN_lt' 2 (by decide))
/-- Phase 2's sine writes stay in bounds. -/
theorem chk12 : k1_chk12 k1_pay28 (k1_pay31 k1_pay28) := inb2 _ _ _ _ o2 c2 (row_lt 2 (by decide)) (colN_lt 2 (by decide))

/-! ## Phase 3: rows 48 to 63 -/

/-- The rows of phase 3's lanes. -/
theorem o3 : ∀ k : Fin 16, (k1_pay34 (lane k)).toNat = 16 * 3 + k.val := by decide +kernel
/-- Where phase 3's lanes read their cosines. -/
theorem l3 : ∀ k : Fin 16, (k1_pay38 k1_pay34 (lane k)).toNat = lN (16 * 3 + k.val) := by decide +kernel
/-- The partner columns of phase 3's lanes. -/
theorem c3 : ∀ k : Fin 16, (k1_pay39 k1_pay34 (k1_pay35 k1_pay34) k1_pay36 (lane k)).toNat = colN (16 * 3 + k.val) := by decide +kernel
/-- Where phase 3's lanes read their sines. -/
theorem s3 : ∀ k : Fin 16, (k1_pay40 (k1_pay38 k1_pay34) (lane k)).toNat = 64 + lN (16 * 3 + k.val) := by
  decide +kernel
/-- The sign words of the phase's lanes. -/
theorem g3 : ∀ k : Fin 16, (subi (muli (broadcast S16 2#32) (k1_pay37 (k1_pay35 k1_pay34) k1_pay36)) (broadcast S16 1#32)) (lane k)
    = sgnW (16 * 3 + k.val) := by decide +kernel
/-- The signed sines: each lane's operand with its row's sign. -/
theorem w3 (x : Vec F S16 .f32) (k : Fin 16) :
    (k1_pay41 (k1_pay35 k1_pay34) k1_pay36 x) (lane k) = sgnMul (x (lane k)) (sgnW (16 * 3 + k.val)) := by
  rw [← g3 k]; rfl
/-- Phase 3's cosine reads stay in bounds. -/
theorem chk13 : k1_chk13 (k1_pay38 k1_pay34) := inb1 _ _ l3 (lN_lt 3 (by decide))
/-- Phase 3's cosine writes stay in bounds. -/
theorem chk14 : k1_chk14 k1_pay34 := inb2 _ _ _ _ o3 o3 (row_lt 3 (by decide)) (row_lt 3 (by decide))
/-- Phase 3's sine reads stay in bounds. -/
theorem chk15 : k1_chk15 (k1_pay40 (k1_pay38 k1_pay34)) := inb1 _ _ s3 (lN_lt' 3 (by decide))
/-- Phase 3's sine writes stay in bounds. -/
theorem chk16 : k1_chk16 k1_pay34 (k1_pay39 k1_pay34 (k1_pay35 k1_pay34) k1_pay36) := inb2 _ _ _ _ o3 c3 (row_lt 3 (by decide)) (colN_lt 3 (by decide))

/-! ## Phase 4: rows 64 to 79 -/

/-- The rows of phase 4's lanes. -/
theorem o4 : ∀ k : Fin 16, (k1_pay42 (lane k)).toNat = 16 * 4 + k.val := by decide +kernel
/-- Where phase 4's lanes read their cosines. -/
theorem l4 : ∀ k : Fin 16, (k1_pay44 k1_pay42 (lane k)).toNat = lN (16 * 4 + k.val) := by decide +kernel
/-- The partner columns of phase 4's lanes. -/
theorem c4 : ∀ k : Fin 16, (k1_pay45 k1_pay42 (k1_pay43 k1_pay42) (lane k)).toNat = colN (16 * 4 + k.val) := by decide +kernel
/-- Where phase 4's lanes read their sines. -/
theorem s4 : ∀ k : Fin 16, (k1_pay46 (k1_pay44 k1_pay42) (lane k)).toNat = 64 + lN (16 * 4 + k.val) := by
  decide +kernel
/-- The sign words of the phase's lanes. -/
theorem g4 : ∀ k : Fin 16, (subi (muli (broadcast S16 2#32) (k1_pay43 k1_pay42)) (broadcast S16 1#32)) (lane k)
    = sgnW (16 * 4 + k.val) := by decide +kernel
/-- The signed sines: each lane's operand with its row's sign. -/
theorem w4 (x : Vec F S16 .f32) (k : Fin 16) :
    (k1_pay47 (k1_pay43 k1_pay42) x) (lane k) = sgnMul (x (lane k)) (sgnW (16 * 4 + k.val)) := by
  rw [← g4 k]; rfl
/-- Phase 4's cosine reads stay in bounds. -/
theorem chk17 : k1_chk17 (k1_pay44 k1_pay42) := inb1 _ _ l4 (lN_lt 4 (by decide))
/-- Phase 4's cosine writes stay in bounds. -/
theorem chk18 : k1_chk18 k1_pay42 := inb2 _ _ _ _ o4 o4 (row_lt 4 (by decide)) (row_lt 4 (by decide))
/-- Phase 4's sine reads stay in bounds. -/
theorem chk19 : k1_chk19 (k1_pay46 (k1_pay44 k1_pay42)) := inb1 _ _ s4 (lN_lt' 4 (by decide))
/-- Phase 4's sine writes stay in bounds. -/
theorem chk20 : k1_chk20 k1_pay42 (k1_pay45 k1_pay42 (k1_pay43 k1_pay42)) := inb2 _ _ _ _ o4 c4 (row_lt 4 (by decide)) (colN_lt 4 (by decide))

/-! ## Phase 5: rows 80 to 95 -/

/-- The rows of phase 5's lanes. -/
theorem o5 : ∀ k : Fin 16, (k1_pay48 (lane k)).toNat = 16 * 5 + k.val := by decide +kernel
/-- Where phase 5's lanes read their cosines. -/
theorem l5 : ∀ k : Fin 16, (k1_pay50 k1_pay48 (lane k)).toNat = lN (16 * 5 + k.val) := by decide +kernel
/-- The partner columns of phase 5's lanes. -/
theorem c5 : ∀ k : Fin 16, (k1_pay51 k1_pay48 (lane k)).toNat = colN (16 * 5 + k.val) := by decide +kernel
/-- Where phase 5's lanes read their sines. -/
theorem s5 : ∀ k : Fin 16, (k1_pay53 (k1_pay50 k1_pay48) (lane k)).toNat = 64 + lN (16 * 5 + k.val) := by
  decide +kernel
/-- The sign words of the phase's lanes. -/
theorem g5 : ∀ k : Fin 16, (subi (muli (broadcast S16 2#32) (k1_pay49 k1_pay48)) (broadcast S16 1#32)) (lane k)
    = sgnW (16 * 5 + k.val) := by decide +kernel
/-- The signed sines: each lane's operand with its row's sign. -/
theorem w5 (x : Vec F S16 .f32) (k : Fin 16) :
    (k1_pay54 (k1_pay52 k1_pay48) x) (lane k) = sgnMul (x (lane k)) (sgnW (16 * 5 + k.val)) := by
  rw [← g5 k]; rfl
/-- Phase 5's cosine reads stay in bounds. -/
theorem chk21 : k1_chk21 (k1_pay50 k1_pay48) := inb1 _ _ l5 (lN_lt 5 (by decide))
/-- Phase 5's cosine writes stay in bounds. -/
theorem chk22 : k1_chk22 k1_pay48 := inb2 _ _ _ _ o5 o5 (row_lt 5 (by decide)) (row_lt 5 (by decide))
/-- Phase 5's sine reads stay in bounds. -/
theorem chk23 : k1_chk23 (k1_pay53 (k1_pay50 k1_pay48)) := inb1 _ _ s5 (lN_lt' 5 (by decide))
/-- Phase 5's sine writes stay in bounds. -/
theorem chk24 : k1_chk24 k1_pay48 (k1_pay51 k1_pay48) := inb2 _ _ _ _ o5 c5 (row_lt 5 (by decide)) (colN_lt 5 (by decide))

/-! ## Phase 6: rows 96 to 111 -/

/-- The rows of phase 6's lanes. -/
theorem o6 : ∀ k : Fin 16, (k1_pay55 (lane k)).toNat = 16 * 6 + k.val := by decide +kernel
/-- Where phase 6's lanes read their cosines. -/
theorem l6 : ∀ k : Fin 16, (k1_pay57 k1_pay55 (lane k)).toNat = lN (16 * 6 + k.val) := by decide +kernel
/-- The partner columns of phase 6's lanes. -/
theorem c6 : ∀ k : Fin 16, (k1_pay58 k1_pay55 (lane k)).toNat = colN (16 * 6 + k.val) := by decide +kernel
/-- Where phase 6's lanes read their sines. -/
theorem s6 : ∀ k : Fin 16, (k1_pay59 (k1_pay57 k1_pay55) (lane k)).toNat = 64 + lN (16 * 6 + k.val) := by
  decide +kernel
/-- The sign words of the phase's lanes. -/
theorem g6 : ∀ k : Fin 16, (subi (muli (broadcast S16 2#32) (k1_pay56 k1_pay55)) (broadcast S16 1#32)) (lane k)
    = sgnW (16 * 6 + k.val) := by decide +kernel
/-- The signed sines: each lane's operand with its row's sign. -/
theorem w6 (x : Vec F S16 .f32) (k : Fin 16) :
    (k1_pay60 k1_pay55 x) (lane k) = sgnMul (x (lane k)) (sgnW (16 * 6 + k.val)) := by
  rw [← g6 k]; rfl
/-- Phase 6's cosine reads stay in bounds. -/
theorem chk25 : k1_chk25 (k1_pay57 k1_pay55) := inb1 _ _ l6 (lN_lt 6 (by decide))
/-- Phase 6's cosine writes stay in bounds. -/
theorem chk26 : k1_chk26 k1_pay55 := inb2 _ _ _ _ o6 o6 (row_lt 6 (by decide)) (row_lt 6 (by decide))
/-- Phase 6's sine reads stay in bounds. -/
theorem chk27 : k1_chk27 (k1_pay59 (k1_pay57 k1_pay55)) := inb1 _ _ s6 (lN_lt' 6 (by decide))
/-- Phase 6's sine writes stay in bounds. -/
theorem chk28 : k1_chk28 k1_pay55 (k1_pay58 k1_pay55) := inb2 _ _ _ _ o6 c6 (row_lt 6 (by decide)) (colN_lt 6 (by decide))

/-! ## Phase 7: rows 112 to 127 -/

/-- The rows of phase 7's lanes. -/
theorem o7 : ∀ k : Fin 16, (k1_pay61 (lane k)).toNat = 16 * 7 + k.val := by decide +kernel
/-- Where phase 7's lanes read their cosines. -/
theorem l7 : ∀ k : Fin 16, (k1_pay2 k1_pay61 (lane k)).toNat = lN (16 * 7 + k.val) := by decide +kernel
/-- The partner columns of phase 7's lanes. -/
theorem c7 : ∀ k : Fin 16, (k1_pay3 k1_pay61 5#32 (lane k)).toNat = colN (16 * 7 + k.val) := by decide +kernel
/-- Where phase 7's lanes read their sines. -/
theorem s7 : ∀ k : Fin 16, (k1_pay4 (k1_pay2 k1_pay61) (lane k)).toNat = 64 + lN (16 * 7 + k.val) := by
  decide +kernel
/-- The sign words of the phase's lanes. -/
theorem g7 : ∀ k : Fin 16, (subi (muli (broadcast S16 2#32) (k1_pay1 k1_pay61 5#32)) (broadcast S16 1#32)) (lane k)
    = sgnW (16 * 7 + k.val) := by decide +kernel
/-- The signed sines: each lane's operand with its row's sign. -/
theorem w7 (x : Vec F S16 .f32) (k : Fin 16) :
    (k1_pay5 k1_pay61 5#32 x) (lane k) = sgnMul (x (lane k)) (sgnW (16 * 7 + k.val)) := by
  rw [← g7 k]; rfl
/-- Phase 7's cosine reads stay in bounds. -/
theorem chk29 : k1_chk29 (k1_pay2 k1_pay61) := inb1 _ _ l7 (lN_lt 7 (by decide))
/-- Phase 7's cosine writes stay in bounds. -/
theorem chk30 : k1_chk30 k1_pay61 := inb2 _ _ _ _ o7 o7 (row_lt 7 (by decide)) (row_lt 7 (by decide))
/-- Phase 7's sine reads stay in bounds. -/
theorem chk31 : k1_chk31 (k1_pay4 (k1_pay2 k1_pay61)) := inb1 _ _ s7 (lN_lt' 7 (by decide))
/-- Phase 7's sine writes stay in bounds. -/
theorem chk32 : k1_chk32 k1_pay61 (k1_pay3 k1_pay61 5#32) := inb2 _ _ _ _ o7 c7 (row_lt 7 (by decide)) (colN_lt 7 (by decide))

end Cert.KernelIdeal.Tile
-- ==== Proof.Setup.lean ====
/- The program as the SparseCore launch theorem sees it: its body tables, the resource algebra (the
   launch handshakes' rounds, beside the TensorCore pipeline's rounds and the copies' counters), and
   the names of the device's arrays. -/
module

public import proofs.«01_k».proof.Defs
public import proofs.«01_k».proof.Proof.Phases
public import Idealize.ShloMosaic.Lib.SparseCore.Quiescent
public import Idealize.ShloMosaic.Lib.SparseCore.Ops
public import Idealize.ShloMosaic.Lib.StableHlo.Run
public import Idealize.ShloMosaic.Lib.Pipeline.Kit
public import Idealize.ShloMosaic.Lib.Tactic
public import Idealize.ShloMosaic.Lib.Writes

@[expose] public section

noncomputable section

namespace Cert.KernelIdeal.Prf

open Cert.KernelIdeal Cert.KernelIdeal.Gen

open Idealize.ShloMosaic
open Idealize.ShloMosaic.SparseCore (S V T)
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-- The labels of the program with its one pipelined region. -/
abbrev ΛP : Labels := Pipeline.Sig Λ₀ (Fin 1) fun p => (pcfgs (F := F) p).Adm
/-- The SparseCore launch. -/
abbrev K : SparseCore.Cfg τ sig (ΛP (F := F)) 1 := sc (F := F)
/-- The definitions with the region's pipeline in. -/
abbrev D [FloatOps F] : Defs nD τ sig (Elt F) (ΛP (F := F)) := Pipeline.defs pcfgs defs₀
/-- No loop variants are needed in the bodies. -/
abbrev 𝒱₀ : Variants := Variants.none
/-- The same, for the whole launch. -/
abbrev 𝒱 : Variants := 𝒱₀.lift
/-- The launch's own variant. -/
abbrev v₀ : 𝒱.V := Sum.inl none

/-- The call uses sixteen subcores. -/
theorem nSub_zero : (K (F := F)).nSub 0 = 16 := rfl
/-- The call uses two SparseCores. -/
theorem nCore_zero : (K (F := F)).nCore 0 = 2 := rfl

/-- The launch's semaphores are apart from each other and from the scoped ones. -/
theorem scFacts : (K (F := F)).Facts :=
  ⟨show sc_start ≠ sc_taskDone by decide,
    show (SemLoc.reg sc_start : SemLoc sig).isScoped .scScalar = false by decide,
    show (SemLoc.reg sc_taskDone : SemLoc sig).isScoped .scScalar = false by decide,
    show (SemLoc.reg sc_go : SemLoc sig).isScoped .scVector = false by decide,
    show (SemLoc.reg sc_done : SemLoc sig).isScoped .tc = false by decide,
    show ∀ (b : DevRef τ sig) (c : Fin τ.nSC), b.owner = .sc c → sig.taskShared b.table b.idx = false by decide,
    fun _ => rfl⟩

/-- The handshakes' rounds; the pipeline's rounds; both beside the copies' counters. -/
abbrev UH : Type := URounds (GSem nD τ sig) ℕ
/-- The pipeline's rounds. -/
abbrev UP : Type := URounds (GSem nD τ sig) Unit
/-- Handshakes, pipeline and copies' counters together. -/
abbrev UU : Type := UH × (UP × Counters)

/-- The handshakes' embedding: the left factor. -/
abbrev EH : Emb UH (MT nD τ sig (HIx 1) (Elt F) ℕ UU ℕ) := embL
/-- The pipeline's: the left factor of the right one. -/
def EP : Emb UP (MT nD τ sig (HIx 1) (Elt F) ℕ UU ℕ) :=
  (Emb.inl : Emb UP (UP × Counters)).trans (embR (nD := nD) (τ := τ) (sig := sig) (Ix := HIx 1) (Val := Elt F) (Name := ℕ) (Lvl := ℕ))

/-- The pipeline's embedding stays inside the user part of the state. -/
instance EP_landsIn : (EP : Emb UP (MT nD τ sig (HIx 1) (Elt F) ℕ UU ℕ)).LandsIn
    (upEmb : UEmb _ (MT nD τ sig (HIx 1) (Elt F) ℕ UU ℕ)) := by unfold EP; infer_instance

/-- The arrays: the arguments, the reshaped angles, the zeroed canvas, the table of cosines and sines,
    and the result. -/
abbrev a0Loc (d : Dev nD) : Loc nD τ sig := (SparseCore.T d).loc main_arg0
/-- The first index list. -/
abbrev a1Loc (d : Dev nD) : Loc nD τ sig := (SparseCore.T d).loc main_arg1
/-- The second index list. -/
abbrev a2Loc (d : Dev nD) : Loc nD τ sig := (SparseCore.T d).loc main_arg2
/-- The reshaped angles. -/
abbrev v0Loc (d : Dev nD) : Loc nD τ sig := (SparseCore.T d).loc main_v0
/-- The canvas. -/
abbrev cvLoc (d : Dev nD) : Loc nD τ sig := (SparseCore.T d).loc main_v1_0
/-- The table of cosines and sines. -/
abbrev tbLoc (d : Dev nD) : Loc nD τ sig := (SparseCore.T d).loc main_v1_1
/-- The result. -/
abbrev oLoc (d : Dev nD) : Loc nD τ sig := (SparseCore.T d).loc main_v2

/-- A vector subcore's view of the table and of the result, its scratch row and its scratch block. -/
abbrev tbV : Memref sig .scVector .hbm S16x2x128 .f32 := Memref.whole main_v1_1_scv
/-- The result as a subcore names it. -/
abbrev oV : Memref sig .scVector .hbm S4096x4096 .f32 := Memref.whole main_v2_scv
/-- A subcore's scratch row. -/
abbrev sV : Memref sig .scVector .vmem S128 .f32 := Memref.whole cc1_scratch0
/-- A subcore's scratch block. -/
abbrev sB : Memref sig .scVector .vmem S128x128 .f32 := Memref.whole cc1_scratch1

end Cert.KernelIdeal.Prf
-- ==== Proof.Dense.lean ====
/- The TensorCore's region: at each of 16 points its body clears a 256×4096 block of the canvas and
   writes two rows of the table, each 64 cosines followed by the 64 sines of the same angles. The region
   is entered with every array of the device at a valuation and left with the canvas all zero and the
   table at `tabOf` of the reshaped angles. -/
module

public import proofs.«01_k».proof.Proof.Setup
public import proofs.«01_k».proof.Proof.Gen.KernelIdeal.Launch
public import proofs.«01_k».proof.Proof.Gen.KernelIdeal.Points
public import Idealize.ShloMosaic.Lib.Pipeline.RegionsLoop
public import Idealize.ShloMosaic.Lib.Pipeline.ValueKit
public import Idealize.ShloMosaic.Lib.VecWindow
public import Idealize.ShloMosaic.Lib.SparseCore.Threads

@[expose] public section

noncomputable section

namespace Cert.KernelIdeal.Prf

open Cert.KernelIdeal Cert.KernelIdeal.Gen Cert.KernelIdeal.Tile

open Idealize.ShloMosaic Idealize.ShloMosaic.TcCoe
open Idealize.ShloMosaic.SparseCore (S V)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Pipeline (Dat Cfg Window BodyObligation cellOf)

variable {F : FTy → Type} [FloatOps F]

local notation "𝕄" => MT nD τ sig (HIx 1) (Elt F) ℕ UU ℕ

section Body

/-- The body's run, at symbolic staging buffers: from the angles' block at `x` to the canvas's block
    cleared and the table's block as computed of `x`. -/
theorem dense_run (c : Dev nD) (i : grid0.Coords)
    (M1 : Memref sig .tc .vmem S1x1x128 .f32) (h1 : M1.IsWhole) (M2 : Memref sig .tc .vmem S256x4096 .f32) (h2 : M2.IsWhole)
    (M3 : Memref sig .tc .vmem S1x2x128 .f32) (h3 : M3.IsWhole) (x : Vec F S1x1x128 .f32)
    (f2 : Vec F S256x4096 .f32) (f3 : Vec F S1x2x128 .f32) (Q : PUnit → sProp 𝕄) :
    iprop(owns (c : Thread nD τ) M1 fullShare x ∗ owns (c : Thread nD τ) M2 fullShare f2 ∗ owns (c : Thread nD τ) M3 fullShare f3
        ∗ (iprop(owns (c : Thread nD τ) M1 fullShare x ∗ owns (c : Thread nD τ) M2 fullShare (k0_pay1 (F := F))
            ∗ owns (c : Thread nD τ) M3 fullShare (k0_pay2 x)) -∗ Q ⟨⟩))
      ⊢ wp frame (wpE (defs₀ (F := F)) Variants.none c none) Set.univ (cc0__dense_body i M1 h1 M2 h2 M3 h3) Q := by
  rw [cc0__dense_body_eq_skeleton]
  unfold cc0__dense_body_skel owns
  rw [h1.set_eq_univ, h2.set_eq_univ, h3.set_eq_univ]
  iintro ⟨⟨%g1, %e1, H1⟩, ⟨%g2, -, H2⟩, ⟨%g3, -, H3⟩, Hk⟩
  sl_exec
  sl_step
  iapply Hk
  isplitl [H1]
  · iexists _; isplitr; swap; (· iexact H1); ipureintro; exact e1
  isplitl [H2]
  · iexists _; isplitr; swap; (· iexact H2); ipureintro; exact View.read_writes_full (Val := Elt F) M2.view _ _ _ []
  iexists _; isplitr; swap; (· iexact H3); ipureintro
  refine (View.read_writes_full (Val := Elt F) M3.view _ _ _ []).trans (congrArg k0_pay2 ?_)
  exact (View.readAt_full M1.view g1 inb_S1x1x128_S1x1x128_0_0_0).trans e1

end Body

/-! ## The proof data, at an entry valuation -/

/-- A valuation of a core's buffers. -/
abbrev TcVal : Type := (c : Dev nD) → (b : Ref sig .tc) → Buf (Elt F) ((c : Thread nD τ).loc b)

variable (W : TcVal (F := F))

/-- The angles' block as the fetch at point `t` stages it. -/
abbrev stg (c : Dev nD) (t : Fin cfg0.N) : (cfg0.win 0).block.Idx → Elt F (cfg0.win 0).elt :=
  ((cfg0.win 0).blk t).view.read (Elt F) (W c main_v0)

/-- The pairs a TensorCore may have recorded before the SparseCore call. -/
def recB (c : Dev nD) : Set (SemLoc sig × HIx 1) := {p | (K (F := F)).lev (SparseCore.T c, p.1) p.2 ≤ 0}

/-- The region's data: the arrays at the valuation; the angles' buffer as fetched, the canvas's cleared,
    the table's as computed; the start signals of the SparseCore call still owed. -/
def dat (c : Dev nD) : Dat τ (Elt F) (HIx 1) ℕ UU ℕ cfg0 c where
  A w := W c (Pipeline.arrRef spec0 w)
  after w t := match w with
    | ⟨0, _⟩ => stg W c t
    | ⟨1, _⟩ => k0_pay1 (F := F)
    | ⟨2, _⟩ => k0_pay2 (F := F) (stg W c t)
  Φ _ := Pipeline.scopedRest (Ix := HIx 1) (Name := ℕ) (U := UU) (Lvl := ℕ) (Val := Elt F) spec0 c
  q _ := fullShare
  owed _ := (K (F := F)).Otc c 0
  recorded _ := recB (F := F) c

/-- The region's pipeline is one the rules for pipelines cover. -/
abbrev adm : (p : Fin 1) → (pcfgs (F := F) p).Adm := fun p => (cfgs p).toPCfg_adm

/-- The contents of the one region's windows, as a family over the regions. -/
def pdats : (p : Fin 1) → (c : Dev nD) → Dat τ (Elt F) (HIx 1) ℕ UU ℕ (Pipeline.pin (pcfgs (F := F)) adm p) c
  | ⟨0, _⟩ => fun c => dat W c

/-- The angles' buffer holds the step's 128 angles when the step starts. -/
theorem before_in (c : Dev nD) (t : Fin cfg0.N) (d : (cfg0.win 0).block.Idx → Elt F (cfg0.win 0).elt) : (dat W c).before 0 t d = stg W c t := by
  unfold Dat.before; rw [if_pos (fetch0_0 t)]; rfl

/-- Each step, from its windows' buffers, leaves the zero canvas rows and the two table rows in them. -/
theorem body_obligation (c : Dev nD) : BodyObligation (dat W c) (defs₀ (F := F)) 𝒱₀ (none : HIx 1) Set.univ := fun t => by
  rw [bigSep_W0, bigSep_W0]
  rw [show (dat W c).Φ t.castSucc = (dat W c).Φ t.succ from rfl,
    show (dat W c).owesAt none t.succ = (dat W c).owesAt none t.castSucc from rfl]
  iintro ⟨HΦ, Howes, ⟨%d0, H0⟩, ⟨%d1, H1⟩, ⟨%d2, H2⟩⟩
  rw [before_in]
  iapply (dense_run c (grid0.coords t) (st0_0 t) (hstage0_0 ((cfg0.slots t 0).cast nbuf0_0)) (st0_1 t) (hstage0_1 ((cfg0.slots t 1).cast nbuf0_1))
    (st0_2 t) (hstage0_2 ((cfg0.slots t 2).cast nbuf0_2)) _ _ _ _)
  isplitl [H0]; · iexact H0
  isplitl [H1]; · iexact H1
  isplitl [H2]; · iexact H2
  iintro ⟨H0, H1, H2⟩
  isplitl [HΦ]; · iexact HΦ
  isplitl [Howes]; · iexact Howes
  isplitl [H0]; · iexact H0
  isplitl [H1]; · iexact H1
  iexact H2

/-! ## The region -/

/-- The TensorCore owes the handshakes nothing at the plain index. -/
theorem Otc_none (c : Dev nD) (g : GSem nD τ sig) : (K (F := F)).Otc c 0 g none = 0 := by
  by_contra h
  have := (K (F := F)).lev_of_Otc_pos (Nat.pos_of_ne_zero h)
  rw [(K (F := F)).lev_none] at this
  omega

/-- What the TensorCore owes before the SparseCore call. -/
abbrev owesTC (c : Dev nD) : sProp 𝕄 :=
  iprop(∃ R, ⌜(K (F := F)).WBelow (SparseCore.T c) R 0⌝ ∗ owes (SparseCore.T c) ((K (F := F)).Otc c 0) R)

variable (Wp : TcVal (F := F))

set_option backward.isDefEq.respectTransparency.types false in
/-- The region, entered at the valuation `W` and left at any `Wp` that has the two results as the
    region computes them and agrees with `W` elsewhere. -/
def reg (h1 : ∀ c, Wp c main_v1_0 = (dat W c).arrAt 1 cfg0.N) (h2 : ∀ c, Wp c main_v1_1 = (dat W c).arrAt 2 cfg0.N)
    (hne : ∀ c (b : Ref sig .tc), b ≠ main_v1_0 → b ≠ main_v1_1 → Wp c b = W c b) :
    Pipeline.RegionSeg (pcfgs (F := F)) adm (pdats W) (none : HIx 1) defs₀ 𝒱₀ (K (F := F)).L (K (F := F)).lev 0 where
  win := launch0.win.to₀
  block_pos := launch0.block_pos
  stage_whole := launch0.stage_whole
  K := PEmpty
  osem k := k.elim
  ho := Pipeline.OwnSemFacts.none _
  hbody c := (body_obligation W c).loose
  hwaits c := Pipeline.cellsWaits_intro _ _ _ _ _ fun _ _ _ => (K (F := F)).mayWait_none _ (Otc_none c)
  pre c := iprop(unscopedBufs c (W c) ∗ owesTC c)
  post c := iprop(unscopedBufs c (Wp c) ∗ owesTC c)
  X _ := BI.emp
  Y _ := BI.emp
  Z c := Pipeline.unscopedRest (Ix := HIx 1) (Name := ℕ) (U := UU) (Lvl := ℕ) spec0 c (W c)
  hentry c := by
    rw [Pipeline.ownSems0_none]
    have hsplit := Pipeline.arrays_of_unscopedBufs (p := 0) (pcfgs (F := F)) adm (pdats W) launch0.win launch0.arr_whole c
      ((pdats W 0 c).share_full fun _ => rfl) (W c) fun _ => rfl
    iintro ⟨⟨Hub, %R, %hR, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      iexists R; isplitr
      · ipureintro; exact fun p hp => Or.inl (hR p hp)
      iexact HO
    isplitr; · iempintro
    iexact Hrest
  hin c := by
    rw [show (pdats W 0 c).Φ 0 = Pipeline.scopedRest (Ix := HIx 1) (Name := ℕ) (U := UU) (Lvl := ℕ) (Val := Elt F) spec0 c from rfl]
    iintro ⟨-, -, Hr⟩; iexact Hr
  hout c := by
    rw [Pipeline.ownSems0_none, show (pdats W 0 c).Φ (Fin.last _) = Pipeline.scopedRest (Ix := HIx 1) (Name := ℕ) (U := UU) (Lvl := ℕ) (Val := Elt F) spec0 c from rfl]
    iintro Hr
    isplitr; · iempintro
    isplitr; · iempintro
    iexact Hr
  hexit c := by
    have hjoin := Pipeline.unscopedBufs_of_arrays (p := 0) (pcfgs (F := F)) adm (Ix := HIx 1) (Name := ℕ) (U := UU) (Lvl := ℕ) launch0.win launch0.arr_whole c
      (pdats W) ((pdats W 0 c).share_full fun _ => rfl) (W c) (Wp c) ((pdats W 0 c).arrAt · cfg0.N)
      (fun w => by
        fin_cases w
        · exact ((pdats W 0 c).arrAt_in 0 rfl _).trans (hne c main_v0 (by decide) (by decide)).symm
        · exact (h1 c).symm
        · exact (h2 c).symm)
      (fun b hb => hne c b (fun h => hb (h ▸ Finset.mem_image.mpr ⟨1, Finset.mem_univ _, rfl⟩))
        (fun h => hb (h ▸ Finset.mem_image.mpr ⟨2, Finset.mem_univ _, rfl⟩)))
    iintro ⟨Ha, HO, -, Hrest⟩
    imodintro
    isplitl [Ha Hrest]
    · iapply hjoin; isplitl [Ha] <;> iassumption
    unfold Pipeline.Dat.owesAt Pipeline.owesWithin
    icases HO with ⟨%R, %hR, HO⟩
    iexists R; isplitr
    · ipureintro
      intro p hp
      rcases hR hp with h | ⟨w, s, rfl⟩
      · exact h
      · exact le_refl 0
    iexact HO

/-! ## The arrays it leaves -/

/-- The table, from the reshaped angles. -/
def tabOf (v : Vec F S16x1x128 .f32) : Vec F S16x2x128 .f32 := fun i =>
  k0_pay2 (F := F) (fun j => v (fun | 0 => i 0 | 1 => j 1 | 2 => j 2)) (fun | 0 => (0 : Fin 1) | 1 => i 1 | 2 => i 2)

/-- After the last step the canvas is zero everywhere. -/
theorem canvas_final (c : Dev nD) : (dat W c).arrAt 1 cfg0.N = fun _ => (zero : F .f32) := by
  refine (dat W c).arrAt_eq_of_covers 1 _ (by decide +kernel) fun t hf y => ?_
  rfl

/-- After the last step the table is `tabOf` of the reshaped angles. -/
theorem table_final (c : Dev nD) : (dat W c).arrAt 2 cfg0.N = tabOf (W c main_v0) := by
  refine (dat W c).arrAt_eq_of_covers 2 _ (by decide +kernel) fun t hf y => ?_
  have e0 : ∀ t : Fin cfg0.N, win0_0.index t = ![(grid0.coords t 0).val, 0, 0] := (by decide +kernel : ∀ t : Fin grid0.N, _)
  have e2 : ∀ t : Fin cfg0.N, win0_2.index t = ![(grid0.coords t 0).val, 0, 0] := (by decide +kernel : ∀ t : Fin grid0.N, _)
  show k0_pay2 (F := F) (stg W c t) y = tabOf (W c main_v0) (((cfg0.win 2).blk t).view.emb y)
  unfold tabOf
  have hy0 : (y 0).val = 0 := by have := (y 0).isLt; exact Nat.lt_one_iff.mp this
  refine congr (congrArg k0_pay2 ?_) ?_
  · funext j
    have hj0 : (j 0).val = 0 := by have := (j 0).isLt; exact Nat.lt_one_iff.mp this
    show W c main_v0 _ = W c main_v0 _
    congr 1
    funext a
    match a with
    | 0 =>
      refine Fin.ext ?_
      show (((cfg0.win 0).blk t).view.emb j 0).val = (((cfg0.win 2).blk t).view.emb y 0).val
      blk_simp [e0, e2]
    | 1 =>
      refine Fin.ext ?_
      show (((cfg0.win 0).blk t).view.emb j 1).val = (j 1).val
      blk_simp [e0, e2]
    | 2 =>
      refine Fin.ext ?_
      show (((cfg0.win 0).blk t).view.emb j 2).val = (j 2).val
      blk_simp [e0, e2]
  · funext a
    match a with
    | 0 => exact Fin.ext hy0
    | 1 =>
      refine Fin.ext ?_
      show (y 1).val = (((cfg0.win 2).blk t).view.emb y 1).val
      blk_simp [e0, e2]
    | 2 =>
      refine Fin.ext ?_
      show (y 2).val = (((cfg0.win 2).blk t).view.emb y 2).val
      blk_simp [e0, e2]

end Cert.KernelIdeal.Prf
-- ==== Proof.Tile.lean ====
/- One vector subcore's task, at a symbolic pair of SparseCore and subcore: it fetches its row of the
   table, clears its scratch block, scatters the cosines and the signed sines into it, and copies the
   block out. The run's post says what the result's block holds: `tileVal` of the fetched row. -/
module

public import proofs.«01_k».proof.Proof.Setup

@[expose] public section

noncomputable section

namespace Cert.KernelIdeal.Prf

open Cert.KernelIdeal Cert.KernelIdeal.Gen Cert.KernelIdeal.Tile

open Idealize.ShloMosaic
open Idealize.ShloMosaic.SparseCore (S V)
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

/-- The SparseCore, the subcore and the thread of a pair of coordinates. -/
abbrev cV (L : grid1.Coords) : Fin τ.nSC := (L 0).castLE hcore1
/-- The subcore of a pair of coordinates. -/
abbrev jV (L : grid1.Coords) : Fin τ.nSub := (L 1).castLE hsub1
/-- The thread of a pair of coordinates. -/
abbrev thr (d : Dev nD) (L : grid1.Coords) : Thread nD τ := V d (cV L) (jV L)

/-- The subcore's row of the table, and its block of the result, as the task slices them. -/
abbrev rowK (L : grid1.Coords) : Memref sig .scVector .hbm S128 .f32 :=
  ((tbV : Memref sig .scVector .hbm S16x2x128 .f32).slice (Rect.unit (s := S16x2x128) (k1_off1 L) S1x1x128.size (k1_off1_inb L)) (fun _ => rfl)).squeeze S128 squeezes_S1x1x128_S128
/-- The task's block of the result. -/
abbrev blkK (L : grid1.Coords) : Memref sig .scVector .hbm S128x128 .f32 :=
  (oV : Memref sig .scVector .hbm S4096x4096 .f32).slice (Rect.unit (s := S4096x4096) (k1_off10 L) S128x128.size (k1_off10_inb L)) (fun _ => rfl)

section Steps

variable (d : Dev nD) (L : grid1.Coords)

/-- The scratch row at contents `v`; the scratch block at contents `f`. -/
abbrev sVp (v : Vec F S128 .f32) : sProp 𝕄 :=
  (sV : Memref sig .scVector .vmem S128 .f32).view.loc (thr d L) ↦{fullShare} (v : Buf (Elt F) ((thr d L).loc cc1_scratch0))
/-- The scratch block at contents `f`. -/
abbrev sBp (f : Vec F S128x128 .f32) : sProp 𝕄 :=
  (sB : Memref sig .scVector .vmem S128x128 .f32).view.loc (thr d L) ↦{fullShare} (f : Buf (Elt F) ((thr d L).loc cc1_scratch1))

/-- A program of the task's thread ends with `Q`. -/
abbrev wpT {α : Type} (p : Prog (TpuEff nD τ sig (Elt F) Λ₀ (.scVector (cV L) (jV L))) α) (Q : α → sProp 𝕄) : sProp 𝕄 :=
  wp frame (wpE (defs₀ (F := F)) 𝒱₀ (thr d L) none) Set.univ p Q

/-- An indexed read of the scratch row. -/
theorem load_step (l : IVec S16 32) (h₁ : ∀ a x, ((![l] : Fin 1 → IVec S16 32) a x).toNat < S128.size a)
    (hl : (sV : Memref sig .scVector .vmem S128 .f32).view.Loads) (v : Vec F S128 .f32) {α : Type}
    (k : Vec F S16 .f32 → Prog (TpuEff nD τ sig (Elt F) Λ₀ (.scVector (cV L) (jV L))) α) (Q : α → sProp 𝕄) :
    iprop((sVp d L v) ∗ (sVp d L v -∗ wpT d L (k (loadIdx v ![l] h₁)) Q))
      ⊢ wpT d L (SparseCore.vectorLoadIdx sV ![l] h₁ hl >>= k) Q := by
  have hr : (((sV : Memref sig .scVector .vmem S128 .f32).access (.whole S128)).read (Elt F) v) = v :=
    Memref.read_access_whole (Elt F) cc1_scratch0 v
  iintro ⟨H, Hk⟩
  iapply (SparseCore.wp_vectorLoadIdx (F := F) 𝒱₀ (thr d L) none Set.univ (base := sV) (idxs := ![l]) (h := h₁) (hl := hl) (k := k)
    (S := Finset.univ) (q := fullShare) (f := v) (Finset.subset_univ _)) $$ H
  rw [hr]
  iexact Hk

/-- An indexed store into the scratch block. -/
theorem store_step (o c : IVec S16 32) (h₂ : ∀ a x, ((![o, c] : Fin 2 → IVec S16 32) a x).toNat < S128x128.size a)
    (hs : ((sB : Memref sig .scVector .vmem S128x128 .f32).access (.whole S128x128)).Stores Finset.univ)
    (f g : Vec F S128x128 .f32) (w : Vec F S16 .f32)
    (hg : storeIdx f ![o, c] w (fun _ => 1#1) false h₂ = g) {α : Type}
    (k : PUnit → Prog (TpuEff nD τ sig (Elt F) Λ₀ (.scVector (cV L) (jV L))) α) (Q : α → sProp 𝕄) :
    iprop((sBp d L f) ∗ (sBp d L g -∗ wpT d L (k ⟨⟩) Q))
      ⊢ wpT d L (SparseCore.vectorStoreIdx sB ![o, c] w (fun _ => 1#1) false h₂ hs >>= k) Q := by
  subst hg
  have hr : (((sB : Memref sig .scVector .vmem S128x128 .f32).access (.whole S128x128)).read (Elt F) f) = f :=
    Memref.read_access_whole (Elt F) cc1_scratch1 f
  have hw : ∀ w', (((sB : Memref sig .scVector .vmem S128x128 .f32).access (.whole S128x128)).write (Elt F) f w' Finset.univ) = w' :=
    fun w' => Memref.write_access_whole_univ (Elt F) cc1_scratch1 f w'
  have hset : ((sB : Memref sig .scVector .vmem S128x128 .f32).access (.whole S128x128)).set = Finset.univ :=
    Memref.set_access_whole cc1_scratch1
  have hrule := SparseCore.wp_vectorStoreIdx (F := F) (defs := defs₀ (F := F)) (Q := Q) (𝒱 := 𝒱₀) (c := thr d L) (bd := none) (E := Set.univ)
    (base := sB) (idxs := ![o, c]) (v := w) (mask := fun _ => 1#1) (add := false) (h := h₂) (hs := hs) (k := k) (f := f)
  rw [hr, hw, hset] at hrule
  iintro ⟨H, Hk⟩
  iapply hrule $$ H
  iexact Hk

/-- A side condition the task assumes, from its proof. -/
theorem assume_step {A : Prop} {dA : Decidable A} (h : A) {α : Type}
    (k : PLift A → Prog (TpuEff nD τ sig (Elt F) Λ₀ (.scVector (cV L) (jV L))) α) (Q : α → sProp 𝕄) :
    wpT d L (k ⟨h⟩) Q ⊢ wpT d L (.op (.assume A dA) k) Q :=
  wp_assume 𝒱₀ (thr d L) none Set.univ h

end Steps

end Cert.KernelIdeal.Prf
-- ==== Proof.TileParts.lean ====
/- The middle of a vector subcore's task: the parts of its body between the clearing of the scratch
   block and the last phase, each from one stage of the block's contents to a later one. -/
module

public import proofs.«01_k».proof.Proof.Tile

@[expose] public section

noncomputable section

namespace Cert.KernelIdeal.Prf

open Cert.KernelIdeal Cert.KernelIdeal.Gen Cert.KernelIdeal.Tile

open Idealize.ShloMosaic
open Idealize.ShloMosaic.SparseCore (S V)
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

variable (d : Dev nD) (L : grid1.Coords)

/-- Part 2 of the task: the sines of phase 0, the cosines of phase 1. -/
theorem part2 (v : Vec F S128 .f32) (Q : _ → sProp 𝕄) :
    iprop(sVp d L v ∗ sBp d L (rows 16 0 v) ∗ (sVp d L v -∗ sBp d L (rows 32 16 v) -∗ Q ⟨k1_pay21, k1_pay24 k1_pay21, chk8, k1_pay25 k1_pay21, k1_pay26 (k1_pay23 k1_pay21)⟩))
      ⊢ wpT d L (k1_part2 (F := F) L tbV (Memref.isWhole_whole _) oV (Memref.isWhole_whole _) oV (Memref.isWhole_whole _) sV (Memref.isWhole_whole _) sB (Memref.isWhole_whole _) cc1_scratch2 cc1_scoped0
          k1_pay14 (k1_pay15 k1_pay14) (k1_pay16 k1_pay14) (k1_pay17 k1_pay14) 6#32) Q := by
  rw [k1_part2_eq_skeleton]; unfold k1_part2_skel
  simp only [Prog.lift, Prog.bind_op, Prog.bind_ret, Prog.pure_eq_ret]
  iintro ⟨HV, HB, Hk⟩
  iapply (assume_step d L chk4)
  iapply (assume_step d L chk3)
  iapply (load_step d L (k1_pay19 (k1_pay16 k1_pay14)) chk3 (View.loads_vmem h_S128) v) $$ [HV HB Hk]
  isplitl [HV]; · iexact HV
  iintro HV
  iapply (store_step d L k1_pay14 (k1_pay18 (k1_pay15 k1_pay14) (k1_pay17 k1_pay14) 6#32) chk4 (View.stores_vmem_bits_univ h_S128x128 rfl) (rows 16 0 v) (rows 16 16 v) _
    (store_sin (16 * 0) k1_pay14 (k1_pay18 (k1_pay15 k1_pay14) (k1_pay17 k1_pay14) 6#32) (k1_pay19 (k1_pay16 k1_pay14)) v _ o0 c0 s0 chk3 chk4 (w0 _))) $$ [HV HB Hk]
  isplitl [HB]; · iexact HB
  iintro HB
  iapply (assume_step d L chk6)
  iapply (assume_step d L chk5)
  iapply (load_step d L (k1_pay23 k1_pay21) chk5 (View.loads_vmem h_S128) v) $$ [HV HB Hk]
  isplitl [HV]; · iexact HV
  iintro HV
  iapply (store_step d L k1_pay21 k1_pay21 chk6 (View.stores_vmem_bits_univ h_S128x128 rfl) (rows 16 16 v) (rows 32 16 v) _
    (store_cos (16 * 1) k1_pay21 (k1_pay23 k1_pay21) v o1 l1 chk5 chk6)) $$ [HV HB Hk]
  isplitl [HB]; · iexact HB
  iintro HB
  iapply (assume_step d L chk8)
  unfold wpT; rw [wp_ret]; imodintro
  iapply Hk $$ [HV] [HB]
  · iexact HV
  · iexact HB

/-- Part 3 of the task: the sines of phase 1, phase 2. -/
theorem part3 (v : Vec F S128 .f32) (Q : _ → sProp 𝕄) :
    iprop(sVp d L v ∗ sBp d L (rows 32 16 v) ∗ (sVp d L v -∗ sBp d L (rows 48 48 v) -∗ Q ⟨k1_pay34, chk14, k1_pay35 k1_pay34, k1_pay36⟩))
      ⊢ wpT d L (k1_part3 (F := F) L tbV (Memref.isWhole_whole _) oV (Memref.isWhole_whole _) oV (Memref.isWhole_whole _) sV (Memref.isWhole_whole _) sB (Memref.isWhole_whole _) cc1_scratch2 cc1_scoped0
          k1_pay21 (k1_pay24 k1_pay21) chk8 (k1_pay25 k1_pay21) (k1_pay26 (k1_pay23 k1_pay21))) Q := by
  rw [k1_part3_eq_skeleton]; unfold k1_part3_skel
  simp only [Prog.lift, Prog.bind_op, Prog.bind_ret, Prog.pure_eq_ret]
  iintro ⟨HV, HB, Hk⟩
  iapply (assume_step d L chk7)
  iapply (load_step d L (k1_pay26 (k1_pay23 k1_pay21)) chk7 (View.loads_vmem h_S128) v) $$ [HV HB Hk]
  isplitl [HV]; · iexact HV
  iintro HV
  iapply (store_step d L k1_pay21 (k1_pay24 k1_pay21) chk8 (View.stores_vmem_bits_univ h_S128x128 rfl) (rows 32 16 v) (rows 32 32 v) _
    (store_sin (16 * 1) k1_pay21 (k1_pay24 k1_pay21) (k1_pay26 (k1_pay23 k1_pay21)) v _ o1 c1 s1 chk7 chk8 (w1 _))) $$ [HV HB Hk]
  isplitl [HB]; · iexact HB
  iintro HB
  iapply (assume_step d L chk10)
  iapply (assume_step d L chk9)
  iapply (load_step d L (k1_pay30 k1_pay28) chk9 (View.loads_vmem h_S128) v) $$ [HV HB Hk]
  isplitl [HV]; · iexact HV
  iintro HV
  iapply (store_step d L k1_pay28 k1_pay28 chk10 (View.stores_vmem_bits_univ h_S128x128 rfl) (rows 32 32 v) (rows 48 32 v) _
    (store_cos (16 * 2) k1_pay28 (k1_pay30 k1_pay28) v o2 l2 chk9 chk10)) $$ [HV HB Hk]
  isplitl [HB]; · iexact HB
  iintro HB
  iapply (assume_step d L chk12)
  iapply (assume_step d L chk11)
  iapply (load_step d L (k1_pay32 (k1_pay30 k1_pay28)) chk11 (View.loads_vmem h_S128) v) $$ [HV HB Hk]
  isplitl [HV]; · iexact HV
  iintro HV
  iapply (store_step d L k1_pay28 (k1_pay31 k1_pay28) chk12 (View.stores_vmem_bits_univ h_S128x128 rfl) (rows 48 32 v) (rows 48 48 v) _
    (store_sin (16 * 2) k1_pay28 (k1_pay31 k1_pay28) (k1_pay32 (k1_pay30 k1_pay28)) v _ o2 c2 s2 chk11 chk12 (w2 _))) $$ [HV HB Hk]
  isplitl [HB]; · iexact HB
  iintro HB
  iapply (assume_step d L chk14)
  unfold wpT; rw [wp_ret]; imodintro
  iapply Hk $$ [HV] [HB]
  · iexact HV
  · iexact HB

/-- Part 4 of the task: phase 3, the cosines of phase 4. -/
theorem part4 (v : Vec F S128 .f32) (Q : _ → sProp 𝕄) :
    iprop(sVp d L v ∗ sBp d L (rows 48 48 v) ∗ (sVp d L v -∗ sBp d L (rows 80 64 v) -∗ Q ⟨k1_pay42, k1_pay43 k1_pay42, k1_pay44 k1_pay42⟩))
      ⊢ wpT d L (k1_part4 (F := F) L tbV (Memref.isWhole_whole _) oV (Memref.isWhole_whole _) oV (Memref.isWhole_whole _) sV (Memref.isWhole_whole _) sB (Memref.isWhole_whole _) cc1_scratch2 cc1_scoped0
          k1_pay34 chk14 (k1_pay35 k1_pay34) k1_pay36) Q := by
  rw [k1_part4_eq_skeleton]; unfold k1_part4_skel
  simp only [Prog.lift, Prog.bind_op, Prog.bind_ret, Prog.pure_eq_ret]
  iintro ⟨HV, HB, Hk⟩
  iapply (assume_step d L chk13)
  iapply (load_step d L (k1_pay38 k1_pay34) chk13 (View.loads_vmem h_S128) v) $$ [HV HB Hk]
  isplitl [HV]; · iexact HV
  iintro HV
  iapply (store_step d L k1_pay34 k1_pay34 chk14 (View.stores_vmem_bits_univ h_S128x128 rfl) (rows 48 48 v) (rows 64 48 v) _
    (store_cos (16 * 3) k1_pay34 (k1_pay38 k1_pay34) v o3 l3 chk13 chk14)) $$ [HV HB Hk]
  isplitl [HB]; · iexact HB
  iintro HB
  iapply (assume_step d L chk16)
  iapply (assume_step d L chk15)
  iapply (load_step d L (k1_pay40 (k1_pay38 k1_pay34)) chk15 (View.loads_vmem h_S128) v) $$ [HV HB Hk]
  isplitl [HV]; · iexact HV
  iintro HV
  iapply (store_step d L k1_pay34 (k1_pay39 k1_pay34 (k1_pay35 k1_pay34) k1_pay36) chk16 (View.stores_vmem_bits_univ h_S128x128 rfl) (rows 64 48 v) (rows 64 64 v) _
    (store_sin (16 * 3) k1_pay34 (k1_pay39 k1_pay34 (k1_pay35 k1_pay34) k1_pay36) (k1_pay40 (k1_pay38 k1_pay34)) v _ o3 c3 s3 chk15 chk16 (w3 _))) $$ [HV HB Hk]
  isplitl [HB]; · iexact HB
  iintro HB
  iapply (assume_step d L chk18)
  iapply (assume_step d L chk17)
  iapply (load_step d L (k1_pay44 k1_pay42) chk17 (View.loads_vmem h_S128) v) $$ [HV HB Hk]
  isplitl [HV]; · iexact HV
  iintro HV
  iapply (store_step d L k1_pay42 k1_pay42 chk18 (View.stores_vmem_bits_univ h_S128x128 rfl) (rows 64 64 v) (rows 80 64 v) _
    (store_cos (16 * 4) k1_pay42 (k1_pay44 k1_pay42) v o4 l4 chk17 chk18)) $$ [HV HB Hk]
  isplitl [HB]; · iexact HB
  iintro HB
  unfold wpT; rw [wp_ret]; imodintro
  iapply Hk $$ [HV] [HB]
  · iexact HV
  · iexact HB

/-- Part 5 of the task: the sines of phase 4, the cosines of phase 5. -/
theorem part5 (v : Vec F S128 .f32) (Q : _ → sProp 𝕄) :
    iprop(sVp d L v ∗ sBp d L (rows 80 64 v) ∗ (sVp d L v -∗ sBp d L (rows 96 80 v) -∗ Q ⟨k1_pay48, k1_pay50 k1_pay48, k1_pay51 k1_pay48, chk24, k1_pay52 k1_pay48⟩))
      ⊢ wpT d L (k1_part5 (F := F) L tbV (Memref.isWhole_whole _) oV (Memref.isWhole_whole _) oV (Memref.isWhole_whole _) sV (Memref.isWhole_whole _) sB (Memref.isWhole_whole _) cc1_scratch2 cc1_scoped0
          k1_pay42 (k1_pay43 k1_pay42) (k1_pay44 k1_pay42)) Q := by
  rw [k1_part5_eq_skeleton]; unfold k1_part5_skel
  simp only [Prog.lift, Prog.bind_op, Prog.bind_ret, Prog.pure_eq_ret]
  iintro ⟨HV, HB, Hk⟩
  iapply (assume_step d L chk20)
  iapply (assume_step d L chk19)
  iapply (load_step d L (k1_pay46 (k1_pay44 k1_pay42)) chk19 (View.loads_vmem h_S128) v) $$ [HV HB Hk]
  isplitl [HV]; · iexact HV
  iintro HV
  iapply (store_step d L k1_pay42 (k1_pay45 k1_pay42 (k1_pay43 k1_pay42)) chk20 (View.stores_vmem_bits_univ h_S128x128 rfl) (rows 80 64 v) (rows 80 80 v) _
    (store_sin (16 * 4) k1_pay42 (k1_pay45 k1_pay42 (k1_pay43 k1_pay42)) (k1_pay46 (k1_pay44 k1_pay42)) v _ o4 c4 s4 chk19 chk20 (w4 _))) $$ [HV HB Hk]
  isplitl [HB]; · iexact HB
  iintro HB
  iapply (assume_step d L chk22)
  iapply (assume_step d L chk21)
  iapply (load_step d L (k1_pay50 k1_pay48) chk21 (View.loads_vmem h_S128) v) $$ [HV HB Hk]
  isplitl [HV]; · iexact HV
  iintro HV
  iapply (store_step d L k1_pay48 k1_pay48 chk22 (View.stores_vmem_bits_univ h_S128x128 rfl) (rows 80 80 v) (rows 96 80 v) _
    (store_cos (16 * 5) k1_pay48 (k1_pay50 k1_pay48) v o5 l5 chk21 chk22)) $$ [HV HB Hk]
  isplitl [HB]; · iexact HB
  iintro HB
  iapply (assume_step d L chk24)
  unfold wpT; rw [wp_ret]; imodintro
  iapply Hk $$ [HV] [HB]
  · iexact HV
  · iexact HB

/-- Part 6 of the task: the sines of phase 5, phase 6. -/
theorem part6 (v : Vec F S128 .f32) (Q : _ → sProp 𝕄) :
    iprop(sVp d L v ∗ sBp d L (rows 96 80 v) ∗ (sVp d L v -∗ sBp d L (rows 112 112 v) -∗ Q ⟨k1_pay61, chk30, 5#32⟩))
      ⊢ wpT d L (k1_part6 (F := F) L tbV (Memref.isWhole_whole _) oV (Memref.isWhole_whole _) oV (Memref.isWhole_whole _) sV (Memref.isWhole_whole _) sB (Memref.isWhole_whole _) cc1_scratch2 cc1_scoped0
          k1_pay48 (k1_pay50 k1_pay48) (k1_pay51 k1_pay48) chk24 (k1_pay52 k1_pay48)) Q := by
  rw [k1_part6_eq_skeleton]; unfold k1_part6_skel
  simp only [Prog.lift, Prog.bind_op, Prog.bind_ret, Prog.pure_eq_ret]
  iintro ⟨HV, HB, Hk⟩
  iapply (assume_step d L chk23)
  iapply (load_step d L (k1_pay53 (k1_pay50 k1_pay48)) chk23 (View.loads_vmem h_S128) v) $$ [HV HB Hk]
  isplitl [HV]; · iexact HV
  iintro HV
  iapply (store_step d L k1_pay48 (k1_pay51 k1_pay48) chk24 (View.stores_vmem_bits_univ h_S128x128 rfl) (rows 96 80 v) (rows 96 96 v) _
    (store_sin (16 * 5) k1_pay48 (k1_pay51 k1_pay48) (k1_pay53 (k1_pay50 k1_pay48)) v _ o5 c5 s5 chk23 chk24 (w5 _))) $$ [HV HB Hk]
  isplitl [HB]; · iexact HB
  iintro HB
  iapply (assume_step d L chk26)
  iapply (assume_step d L chk25)
  iapply (load_step d L (k1_pay57 k1_pay55) chk25 (View.loads_vmem h_S128) v) $$ [HV HB Hk]
  isplitl [HV]; · iexact HV
  iintro HV
  iapply (store_step d L k1_pay55 k1_pay55 chk26 (View.stores_vmem_bits_univ h_S128x128 rfl) (rows 96 96 v) (rows 112 96 v) _
    (store_cos (16 * 6) k1_pay55 (k1_pay57 k1_pay55) v o6 l6 chk25 chk26)) $$ [HV HB Hk]
  isplitl [HB]; · iexact HB
  iintro HB
  iapply (assume_step d L chk28)
  iapply (assume_step d L chk27)
  iapply (load_step d L (k1_pay59 (k1_pay57 k1_pay55)) chk27 (View.loads_vmem h_S128) v) $$ [HV HB Hk]
  isplitl [HV]; · iexact HV
  iintro HV
  iapply (store_step d L k1_pay55 (k1_pay58 k1_pay55) chk28 (View.stores_vmem_bits_univ h_S128x128 rfl) (rows 112 96 v) (rows 112 112 v) _
    (store_sin (16 * 6) k1_pay55 (k1_pay58 k1_pay55) (k1_pay59 (k1_pay57 k1_pay55)) v _ o6 c6 s6 chk27 chk28 (w6 _))) $$ [HV HB Hk]
  isplitl [HB]; · iexact HB
  iintro HB
  iapply (assume_step d L chk30)
  unfold wpT; rw [wp_ret]; imodintro
  iapply Hk $$ [HV] [HB]
  · iexact HV
  · iexact HB

end Cert.KernelIdeal.Prf
-- ==== Proof.TileBody.lean ====
/- A vector subcore's whole task: the fetch of its row, the clearing loop, the phases, the copy out. -/
module

public import proofs.«01_k».proof.Proof.TileParts

@[expose] public section

noncomputable section

namespace Cert.KernelIdeal.Prf

open Cert.KernelIdeal Cert.KernelIdeal.Gen Cert.KernelIdeal.Tile

open Idealize.ShloMosaic
open Idealize.ShloMosaic.SparseCore (S V)
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

variable (d : Dev nD) (L : grid1.Coords)

/-- The clearing loop's invariant: the rows already passed are zero. -/
def zinv (k : ℕ) (_ : PUnit) : sProp 𝕄 :=
  iprop(∃ f : Vec F S128x128 .f32, ⌜∀ x : S128x128.Idx, (x 0).val < k → f x = zero⌝ ∗ sBp d L f)

/-- The eight stores of a trip of the clearing loop. -/
abbrev zpieces (k : Fin k1_t1_loop.trips) : List (View.Piece (Elt F) S128x128 .f32) :=
  [⟨Rect.unit (s := S128x128) (k1_off9 k) S1x16.size (k1_off9_inb k), shapeCast S1x16 (k1_pay13 (F := F)) shapeCasts_S16_S1x16⟩,
    ⟨Rect.unit (s := S128x128) (k1_off8 k) S1x16.size (k1_off8_inb k), shapeCast S1x16 (k1_pay12 (F := F)) shapeCasts_S16_S1x16⟩,
    ⟨Rect.unit (s := S128x128) (k1_off7 k) S1x16.size (k1_off7_inb k), shapeCast S1x16 (k1_pay11 (F := F)) shapeCasts_S16_S1x16⟩,
    ⟨Rect.unit (s := S128x128) (k1_off6 k) S1x16.size (k1_off6_inb k), shapeCast S1x16 (k1_pay10 (F := F)) shapeCasts_S16_S1x16⟩,
    ⟨Rect.unit (s := S128x128) (k1_off5 k) S1x16.size (k1_off5_inb k), shapeCast S1x16 (k1_pay9 (F := F)) shapeCasts_S16_S1x16⟩,
    ⟨Rect.unit (s := S128x128) (k1_off4 k) S1x16.size (k1_off4_inb k), shapeCast S1x16 (k1_pay8 (F := F)) shapeCasts_S16_S1x16⟩,
    ⟨Rect.unit (s := S128x128) (k1_off3 k) S1x16.size (k1_off3_inb k), shapeCast S1x16 (k1_pay7 (F := F)) shapeCasts_S16_S1x16⟩,
    ⟨Rect.unit (s := S128x128) (k1_off2 k) S1x16.size (k1_off2_inb k), shapeCast S1x16 (k1_pay6 (F := F)) shapeCasts_S16_S1x16⟩]

/-- Stores of zeros leave a zero wherever one of them reaches. -/
theorem writes_zero (L : List (View.Piece (Elt F) S128x128 .f32)) (f : Vec F S128x128 .f32)
    (hz : ∀ p ∈ L, ∀ y : p.1.shape.Idx, p.2 y = (zero : F .f32)) (x : S128x128.Idx) (hx : ∃ p ∈ L, x ∈ p.1.set) :
    (sB : Memref sig .scVector .vmem S128x128 .f32).view.writes (Elt F) f L x = zero :=
  View.read_writes_apply_of_pieces (Val := Elt F) (v := (sB : Memref sig .scVector .vmem S128x128 .f32).view) (f := f)
    (fun _ => (zero : F .f32)) L hz x hx

/-- Stores leave what they do not reach. -/
theorem writes_keep (L : List (View.Piece (Elt F) S128x128 .f32)) (f : Vec F S128x128 .f32) (x : S128x128.Idx)
    (hx : ∀ p ∈ L, x ∉ p.1.set) :
    (sB : Memref sig .scVector .vmem S128x128 .f32).view.writes (Elt F) f L x = f x :=
  View.read_writes_apply_of_forall_not_mem (Val := Elt F) (sB : Memref sig .scVector .vmem S128x128 .f32).view f x L hx

/-- A trip clears its row and keeps the rows already cleared. -/
theorem clear_row (k : Fin k1_t1_loop.trips) (f : Vec F S128x128 .f32)
    (hf : ∀ x : S128x128.Idx, (x 0).val < k.val → f x = zero) (x : S128x128.Idx) (hx : (x 0).val < k.val + 1) :
    (sB : Memref sig .scVector .vmem S128x128 .f32).view.writes (Elt F) f (zpieces (F := F) k) x = zero := by
  have hoff : ∀ p ∈ zpieces (F := F) k, p.1.off 0 = k.val ∧ p.1.stride 0 = 1 ∧ p.1.size 0 = 1 := by
    intro p hp
    simp only [zpieces, List.mem_cons, List.not_mem_nil, or_false] at hp
    rcases hp with rfl | rfl | rfl | rfl | rfl | rfl | rfl | rfl
    · exact ⟨congrFun (k1_off9_eq k) 0, rfl, rfl⟩
    · exact ⟨congrFun (k1_off8_eq k) 0, rfl, rfl⟩
    · exact ⟨congrFun (k1_off7_eq k) 0, rfl, rfl⟩
    · exact ⟨congrFun (k1_off6_eq k) 0, rfl, rfl⟩
    · exact ⟨congrFun (k1_off5_eq k) 0, rfl, rfl⟩
    · exact ⟨congrFun (k1_off4_eq k) 0, rfl, rfl⟩
    · exact ⟨congrFun (k1_off3_eq k) 0, rfl, rfl⟩
    · exact ⟨congrFun (k1_off2_eq k) 0, rfl, rfl⟩
  by_cases hk : (x 0).val < k.val
  · refine (writes_keep _ f x ?_).trans (hf x hk)
    · intro p hp
      obtain ⟨h1, h2, h3⟩ := hoff p hp
      exact Rect.not_mem_set_of_axis p.1 x 0 k.val 1 h1 h2 h3 (Or.inl hk)
  · refine writes_zero _ f ?_ x ?_
    · intro p hp y
      simp only [zpieces, List.mem_cons, List.not_mem_nil, or_false] at hp
      rcases hp with rfl | rfl | rfl | rfl | rfl | rfl | rfl | rfl <;> rfl
    · have h0 : (x 0).val = k.val := by omega
      have h1 : (x 1).val < 128 := (x 1).isLt
      have hmem : ∀ (n : ℕ) (off : Fin 2 → ℕ) (inb : ∀ a, off a + S1x16.size a ≤ S128x128.size a)
          (e : off = ![k.val, 16 * n]), (x 1).val / 16 = n → x ∈ (Rect.unit (s := S128x128) off S1x16.size inb).set := by
        intro n off inb e hn
        subst e
        refine Rect.mem_set_unit.mpr ?_
        intro a
        match a with
        | 0 => exact ⟨by show k.val ≤ (x 0).val; omega, by show (x 0).val < k.val + 1; omega⟩
        | 1 => exact ⟨by show 16 * n ≤ (x 1).val; omega, by show (x 1).val < 16 * n + 16; omega⟩
      have hd : (x 1).val / 16 < 8 := by omega
      generalize hq : (x 1).val / 16 = q at hd
      interval_cases q
      · exact ⟨_, List.Mem.tail _ (List.Mem.tail _ (List.Mem.tail _ (List.Mem.tail _ (List.Mem.tail _ (List.Mem.tail _ (List.Mem.tail _ (List.Mem.head _))))))), hmem 0 _ (k1_off2_inb k) (k1_off2_eq k) hq⟩
      · exact ⟨_, List.Mem.tail _ (List.Mem.tail _ (List.Mem.tail _ (List.Mem.tail _ (List.Mem.tail _ (List.Mem.tail _ (List.Mem.head _)))))), hmem 1 _ (k1_off3_inb k) (k1_off3_eq k) hq⟩
      · exact ⟨_, List.Mem.tail _ (List.Mem.tail _ (List.Mem.tail _ (List.Mem.tail _ (List.Mem.tail _ (List.Mem.head _))))), hmem 2 _ (k1_off4_inb k) (k1_off4_eq k) hq⟩
      · exact ⟨_, List.Mem.tail _ (List.Mem.tail _ (List.Mem.tail _ (List.Mem.tail _ (List.Mem.head _)))), hmem 3 _ (k1_off5_inb k) (k1_off5_eq k) hq⟩
      · exact ⟨_, List.Mem.tail _ (List.Mem.tail _ (List.Mem.tail _ (List.Mem.head _))), hmem 4 _ (k1_off6_inb k) (k1_off6_eq k) hq⟩
      · exact ⟨_, List.Mem.tail _ (List.Mem.tail _ (List.Mem.head _)), hmem 5 _ (k1_off7_inb k) (k1_off7_eq k) hq⟩
      · exact ⟨_, List.Mem.tail _ (List.Mem.head _), hmem 6 _ (k1_off8_inb k) (k1_off8_eq k) hq⟩
      · exact ⟨_, List.Mem.head _, hmem 7 _ (k1_off9_inb k) (k1_off9_eq k) hq⟩

/-- The fetch, the clearing loop and the first cosines. -/
theorem part1 (O : CellTallies nD τ sig (HIx 1)) (W : Waits sig (HIx 1)) (g : Buf (Elt F) (tbLoc d))
    (v₀ : Vec F S128 .f32) (f₀ : Vec F S128x128 .f32) (Q : _ → sProp 𝕄) :
    iprop(Transfers.MayWaits (thr d L) (none : HIx 1) O
      ∗ ((rowK L).view.loc (thr d L) ↦[(rowK L).view.set]{fullShare} g)
      ∗ sVp d L v₀ ∗ sBp d L f₀ ∗ semVal (thr d L, SemLoc.dma cc1_scoped0.sem) 0 ∗ owes (thr d L) O W
      ∗ (Transfers.MayWaits (thr d L) (none : HIx 1) O
        -∗ ((rowK L).view.loc (thr d L) ↦[(rowK L).view.set]{fullShare} g)
        -∗ sVp d L ((rowK L).view.read (Elt F) g) -∗ sBp d L (rows 16 0 ((rowK L).view.read (Elt F) g))
        -∗ semVal (thr d L, SemLoc.dma cc1_scoped0.sem) 0
        -∗ owes (thr d L) O (insert (SemLoc.dma cc1_scoped0.sem, (default : HIx 1)) W)
        -∗ Q ⟨k1_pay14, k1_pay15 k1_pay14, k1_pay16 k1_pay14, k1_pay17 k1_pay14, 6#32⟩))
      ⊢ wpT d L (k1_part1 (F := F) L tbV (Memref.isWhole_whole _) oV (Memref.isWhole_whole _) oV (Memref.isWhole_whole _) sV (Memref.isWhole_whole _) sB (Memref.isWhole_whole _) cc1_scratch2 cc1_scoped0) Q := by
  rw [k1_part1_eq_skeleton]; unfold k1_part1_skel wpT
  iintro ⟨Hmw, Hrow, HV, HB, Hsem, HO, Hk⟩
  sl_exec
  sl_for (zinv d L) $$ [HB]
  case region =>
    intro k _
    unfold zinv
    iintro ⟨%f, %hf, HB⟩
    sl_exec
    sl_step
    iexists _; isplitr
    · ipureintro; exact clear_row k f hf
    · iexact HB
  · unfold zinv
    iexists f₀; isplitr
    · ipureintro; intro x hx; exact absurd hx (Nat.not_lt_zero _)
    · iexact HB
  iintro %_ HI
  unfold zinv
  icases HI with ⟨%f, %hf, HB⟩
  have hz : f = rows 0 0 ((rowK L).view.read (Elt F) g) := by
    rw [rows_zero]; exact funext fun x => hf x (x 0).isLt
  subst hz
  have hw : (sV : Memref sig .scVector .vmem S128 .f32).view.write (Elt F) v₀ ((rowK L).view.read (Elt F) g) Finset.univ = (rowK L).view.read (Elt F) g :=
    View.write_whole_univ _ _ _
  sl_exec
  ihave HV := (show (sVp d L ((sV : Memref sig .scVector .vmem S128 .f32).view.write (Elt F) v₀ (part1.sl.dma0 d L g) Finset.univ) ⊢ sVp d L ((rowK L).view.read (Elt F) g)) from Entails.of_eq (congrArg (fun w => sVp d L w) hw)) $$ HV
  generalize (rowK L).view.read (Elt F) g = v
  iapply (load_step d L (k1_pay16 k1_pay14) chk1 (View.loads_vmem h_S128) v) $$ [HV HB Hk Hmw Hrow Hsem HO]
  isplitl [HV]; · iexact HV
  iintro HV
  iapply (store_step d L k1_pay14 k1_pay14 chk2 (View.stores_vmem_bits_univ h_S128x128 rfl) (rows 0 0 v) (rows 16 0 v) _
    (store_cos (16 * 0) k1_pay14 (k1_pay16 k1_pay14) v o0 l0 chk1 chk2)) $$ [HV HB Hk Hmw Hrow Hsem HO]
  isplitl [HB]; · iexact HB
  iintro HB
  unfold wpT; rw [Prog.pure_eq_ret, wp_ret]; imodintro
  iapply Hk $$ [Hmw] [Hrow] [HV] [HB] [Hsem] [HO]
  · iexact Hmw
  · iexact Hrow
  · iexact HV
  · iexact HB
  · iexact Hsem
  · iexact HO

/-! ## The whole task -/

/-- The cells of a subcore's two transfers. -/
abbrev cellA (d : Dev nD) (L : grid1.Coords) : GSem nD τ sig := (thr d L, SemLoc.dma cc1_scoped0.sem)
/-- The cell of the transfer out. -/
abbrev cellB (d : Dev nD) (L : grid1.Coords) : GSem nD τ sig := (thr d L, SemLoc.dma cc1_scratch2.sem)

omit [FloatOps F] in
/-- The two transfer semaphores are among the subcore's own. -/
theorem ownSems0_V :
    (ownSems0 (thr d L) : sProp 𝕄)
      = iprop(semVal (cellA d L) 0 ∗ semVal (cellB d L) 0
          ∗ bigSep (((ownCells (thr d L)).erase (cellA d L)).erase (cellB d L)) fun g => semVal g 0) := by
  unfold SparseCore.Cfg.ownSems0
  rw [SparseCore.bigSep_erase' ((mem_ownCells (g := cellA d L)).mpr ⟨rfl, by
      show (SemLoc.dma cc1_scoped0.sem : SemLoc sig).isScoped .scVector = true; decide⟩),
    SparseCore.bigSep_erase' (Finset.mem_erase.mpr ⟨by simp [cellA, cellB]; decide, (mem_ownCells (g := cellB d L)).mpr ⟨rfl, by
      show (SemLoc.dma cc1_scratch2.sem : SemLoc sig).isScoped .scVector = true; decide⟩⟩)]

omit [FloatOps F] in
/-- The two scratch buffers are among the subcore's own. -/
theorem ownBufs_V :
    (ownBufs (thr d L) : sProp 𝕄)
      = iprop((∃ f, (thr d L).loc cc1_scratch0 ↦{fullShare} f) ∗ (∃ f, (thr d L).loc cc1_scratch1 ↦{fullShare} f)
          ∗ bigSep (((ownRefs (τ := τ) (.scVector (cV L) (jV L))).erase ((Proc.scVector (cV L) (jV L)).devRef cc1_scratch0)).erase
              ((Proc.scVector (cV L) (jV L)).devRef cc1_scratch1))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc1_scratch0) rfl)).trans ?_
  rw [SparseCore.bigSep_erase' (Finset.mem_erase.mpr ⟨fun e => absurd (Proc.devRef_injective _ e) (show (cc1_scratch1 : Ref sig .scVector) ≠ cc1_scratch0 by decide),
    SparseCore.Cfg.mem_ownRefs_of_owner (p := Proc.scVector (cV L) (jV L)) (b := (Proc.scVector (cV L) (jV L)).devRef cc1_scratch1) rfl⟩)]

omit [FloatOps F] in
/-- The copy of a scratch block `w` leaves, on the subcore's block of the result, any contents that read as `w` there. -/
theorem blk_copied (f G : Buf (Elt F) (oLoc d)) (w : Vec F S128x128 .f32) (hG : ∀ y, (blkK L).view.read (Elt F) G y = w y) :
    ((blkK L).view.loc (thr d L) ↦[(blkK L).view.set]{fullShare}
        (blkK L).view.writes (Elt F) f [⟨Rect.whole S128x128, w⟩] : sProp 𝕄)
      = ((blkK L).view.loc (thr d L) ↦[(blkK L).view.set]{fullShare} G) := by
  refine pointsTo_congr fun i hi => ?_
  obtain ⟨y, -, rfl⟩ := Finset.mem_map.mp hi
  have h := View.read_writes_apply_of_pieces (Val := Elt F) (v := (blkK L).view) (f := f) w [⟨Rect.whole S128x128, w⟩]
    (fun p hp x => by
      obtain rfl := List.mem_singleton.mp hp
      exact congrArg w (Rect.emb_whole_apply _ x).symm) y ⟨_, List.mem_singleton.mpr rfl, by rw [Rect.set_whole]; exact Finset.mem_univ _⟩
  exact h.trans (hG y).symm

/-- The task of a vector subcore: from its row of the table and its block of the result, it brings the row back and
    the block at any contents `G` that read there as `tileVal` of the row. -/
theorem tile_body (hF : (K (F := F)).Facts) (O : CellTallies nD τ sig (HIx 1)) (W : Waits sig (HIx 1)) (hO : ∀ g, O g none = 0)
    (g : Buf (Elt F) (tbLoc d)) (f G : Buf (Elt F) (oLoc d))
    (hG : ∀ y, (blkK L).view.read (Elt F) G y = tileVal ((rowK L).view.read (Elt F) g) y) :
    iprop(levAts (K (F := F)).L (K (F := F)).lev
        ∗ (((rowK L).view.loc (thr d L) ↦[(rowK L).view.set]{fullShare} g) ∗ ((blkK L).view.loc (thr d L) ↦[(blkK L).view.set]{fullShare} f))
        ∗ scopedBufs (thr d L) ∗ scopedSems0 (thr d L) ∗ owes (thr d L) O W)
      ⊢ wpT d L (cc1__sc_scatter_body (F := F) L tbV (Memref.isWhole_whole _) oV (Memref.isWhole_whole _) oV (Memref.isWhole_whole _) sV (Memref.isWhole_whole _) sB (Memref.isWhole_whole _) cc1_scratch2 cc1_scoped0)
          fun _ => iprop((((rowK L).view.loc (thr d L) ↦[(rowK L).view.set]{fullShare} g)
              ∗ ((blkK L).view.loc (thr d L) ↦[(blkK L).view.set]{fullShare} G))
            ∗ scopedBufs (thr d L) ∗ scopedSems0 (thr d L)
            ∗ ∃ W', ⌜∀ p ∈ W', p ∈ W ∨ p.2 = none⌝ ∗ owes (thr d L) O W') := by
  rw [cc1__sc_scatter_body_eq_skeleton]; unfold cc1__sc_scatter_body_skel
  rw [(K (F := F)).scopedBufs_V hF d (cV L) (jV L), SparseCore.Cfg.scopedSems0_V (Val := Elt F) d (cV L) (jV L), ownSems0_V, ownBufs_V]
  iintro ⟨#Hlv, ⟨Hrow, Hblk⟩, ⟨⟨%v₀, HV⟩, ⟨%f₀, HB⟩, Hbufs⟩, ⟨HsA, HsB, Hsems⟩, HO⟩
  ihave Hmw := ((K (F := F)).mayWaits_none (thr := thr d L) hO) $$ [Hlv]
  · iexact Hlv
  unfold wpT
  rw [wp_bind]
  iapply (part1 d L O W g v₀ f₀ _) $$ [Hmw Hrow HV HB HsA HO Hblk Hbufs HsB Hsems]
  isplitl [Hmw]; · iexact Hmw
  isplitl [Hrow]; · iexact Hrow
  isplitl [HV]; · iexact HV
  isplitl [HB]; · iexact HB
  isplitl [HsA]; · iexact HsA
  isplitl [HO]; · iexact HO
  iintro Hmw Hrow HV HB HsA HO
  generalize (rowK L).view.read (Elt F) g = v at hG ⊢
  dsimp only
  rw [wp_bind]
  iapply (part2 d L v _) $$ [HV HB Hmw Hrow HsA HO Hblk Hbufs HsB Hsems]
  isplitl [HV]; · iexact HV
  isplitl [HB]; · iexact HB
  iintro HV HB
  dsimp only
  rw [wp_bind]
  iapply (part3 d L v _) $$ [HV HB Hmw Hrow HsA HO Hblk Hbufs HsB Hsems]
  isplitl [HV]; · iexact HV
  isplitl [HB]; · iexact HB
  iintro HV HB
  dsimp only
  rw [wp_bind]
  iapply (part4 d L v _) $$ [HV HB Hmw Hrow HsA HO Hblk Hbufs HsB Hsems]
  isplitl [HV]; · iexact HV
  isplitl [HB]; · iexact HB
  iintro HV HB
  dsimp only
  rw [wp_bind]
  iapply (part5 d L v _) $$ [HV HB Hmw Hrow HsA HO Hblk Hbufs HsB Hsems]
  isplitl [HV]; · iexact HV
  isplitl [HB]; · iexact HB
  iintro HV HB
  dsimp only
  rw [wp_bind]
  iapply (part6 d L v _) $$ [HV HB Hmw Hrow HsA HO Hblk Hbufs HsB Hsems]
  isplitl [HV]; · iexact HV
  isplitl [HB]; · iexact HB
  iintro HV HB
  dsimp only
  simp only [Prog.lift, Prog.bind_op, Prog.bind_ret, Prog.pure_eq_ret]
  iapply (assume_step d L chk29)
  iapply (load_step d L (k1_pay2 k1_pay61) chk29 (View.loads_vmem h_S128) v) $$ [HV HB Hmw Hrow HsA HO Hblk Hbufs HsB Hsems]
  isplitl [HV]; · iexact HV
  iintro HV
  iapply (store_step d L k1_pay61 k1_pay61 chk30 (View.stores_vmem_bits_univ h_S128x128 rfl) (rows 112 112 v) (rows 128 112 v) _
    (store_cos (16 * 7) k1_pay61 (k1_pay2 k1_pay61) v o7 l7 chk29 chk30)) $$ [HV HB Hmw Hrow HsA HO Hblk Hbufs HsB Hsems]
  isplitl [HB]; · iexact HB
  iintro HB
  iapply (assume_step d L chk32)
  iapply (assume_step d L chk31)
  iapply (load_step d L (k1_pay4 (k1_pay2 k1_pay61)) chk31 (View.loads_vmem h_S128) v) $$ [HV HB Hmw Hrow HsA HO Hblk Hbufs HsB Hsems]
  isplitl [HV]; · iexact HV
  iintro HV
  iapply (store_step d L k1_pay61 (k1_pay3 k1_pay61 5#32) chk32 (View.stores_vmem_bits_univ h_S128x128 rfl) (rows 128 112 v) (rows 128 128 v) _
    (store_sin (16 * 7) k1_pay61 (k1_pay3 k1_pay61 5#32) (k1_pay4 (k1_pay2 k1_pay61)) v _ o7 c7 s7 chk31 chk32 (w7 _))) $$ [HV HB Hmw Hrow HsA HO Hblk Hbufs HsB Hsems]
  isplitl [HB]; · iexact HB
  iintro HB
  unfold wpT
  ihave Hblk := (show (((blkK L).view.loc (thr d L) ↦[(blkK L).view.set]{fullShare} f) : sProp 𝕄)
    ⊢ ((blkK L).view.loc (thr d L) ↦[(blkK L).view.set]{fullShare} f) from Entails.refl _) $$ Hblk
  sl_exec
  ihave Hblk := (show (((blkK L).view.loc (thr d L) ↦[(blkK L).view.set]{fullShare}
      (blkK L).view.writes (Elt F) f [⟨Rect.whole S128x128, tile_body.sl.dma0 v⟩]) : sProp 𝕄)
    ⊢ ((blkK L).view.loc (thr d L) ↦[(blkK L).view.set]{fullShare} G) from Entails.of_eq (blk_copied d L f G _ hG)) $$ Hblk
  rw [wp_ret]; imodintro
  isplitl [Hrow Hblk]
  · isplitl [Hrow]; · iexact Hrow
    iexact Hblk
  isplitl [HV HB Hbufs]
  · isplitl [HV]
    · iexists _; iexact HV
    isplitl [HB]
    · iexists _; iexact HB
    · iexact Hbufs
  isplitl [HsA HsB Hsems]
  · isplitl [HsA]; · iexact HsA
    isplitl [HsB]; · iexact HsB
    iexact Hsems
  iexists (insert (SemLoc.dma cc1_scratch2.sem, none) (insert (SemLoc.dma cc1_scoped0.sem, none) W)); isplitr
  · ipureintro; intro p hp
    rcases Finset.mem_insert.mp hp with rfl | hp
    · exact .inr rfl
    rcases Finset.mem_insert.mp hp with rfl | hp
    · exact .inr rfl
    · exact .inl hp
  iexact HO

end Cert.KernelIdeal.Prf
-- ==== Proof.Blocks.lean ====
/- Which elements each vector subcore's task is handed: its row of the table, and its diagonal block
   of the result. The subcore with coordinates `(c, i)` is the `2i + c`-th of thirty-two; its row is
   row `(i, c)` of the table, and its block the rows and columns from `128(2i + c)`. The whole result,
   `result`, is the block's value on the diagonal blocks and zero off them. -/
module

public import proofs.«01_k».proof.Proof.Tile
public import Idealize.ShloMosaic.Lib.ValueLayout

@[expose] public section

noncomputable section

namespace Cert.KernelIdeal.Prf

open Cert.KernelIdeal Cert.KernelIdeal.Gen Cert.KernelIdeal.Tile

open Idealize.ShloMosaic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig (HIx 1) (Elt F) ℕ UU ℕ

/-- The coordinates of a SparseCore and a subcore. -/
def coordsV (c : Fin (grid1.bound 0)) (s : Fin (grid1.bound 1)) : grid1.Coords :=
  fun | 0 => c | 1 => s | ⟨_ + 2, h⟩ => absurd h (Nat.not_lt.2 (Nat.le_add_left _ _))

/-- A pair of coordinates is rebuilt from its two entries. -/
theorem coords_eta (L : grid1.Coords) : coordsV (L 0) (L 1) = L := by
  funext a
  match a with
  | 0 => rfl
  | 1 => rfl

/-- A task's row of the table starts at subcore, SparseCore, 0, for every pair. -/
theorem off1_coords : ∀ (c : Fin (grid1.bound 0)) (s : Fin (grid1.bound 1)), k1_off1 (coordsV c s) = ![s.val, c.val, 0] := by
  decide +kernel

/-- Where a subcore's row of the table starts. -/
theorem off1_val (L : grid1.Coords) : k1_off1 L = ![(L 1).val, (L 0).val, 0] :=
  (congrArg k1_off1 (coords_eta L)).symm.trans (off1_coords (L 0) (L 1))

/-- Where its block of the result starts, in both dimensions. -/
theorem off10_val (L : grid1.Coords) : k1_off10 L = ![256 * (L 1).val + 128 * (L 0).val, 256 * (L 1).val + 128 * (L 0).val] :=
  k1_off10_eq L

/-- There are two SparseCores. -/
theorem coord0_lt (L : grid1.Coords) : (L 0).val < 2 := (L 0).isLt
/-- There are sixteen subcores. -/
theorem coord1_lt (L : grid1.Coords) : (L 1).val < 16 := (L 1).isLt

/-! ## The row of the table -/

/-- Element `l` of row `w` of the table, the rows counted in order. -/
def tabRow (g : Vec F S16x2x128 .f32) (w : Fin 32) : Vec F S128 .f32 := fun l =>
  g (fun | 0 => (⟨w.val / 2, by omega⟩ : Fin 16) | 1 => (⟨w.val % 2, Nat.mod_lt _ (by decide)⟩ : Fin 2) | 2 => l 0)

/-- Which of the thirty-two a pair of coordinates is. -/
def wid (L : grid1.Coords) : Fin 32 := ⟨2 * (L 1).val + (L 0).val, by have := coord0_lt L; have := coord1_lt L; omega⟩

/-- Entry `l` of a task's row is entry `(subcore, SparseCore, l)` of the table. -/
theorem row_emb (L : grid1.Coords) (l : S128.Idx) (a : Fin 3) :
    ((rowK L).view.emb l a).val = (![(L 1).val, (L 0).val, (l 0).val] : Fin 3 → ℕ) a := by
  have h : Shape.reshapeEquiv (squeezes_S1x1x128_S128).numel_eq l
      = (fun | 0 => (⟨0, by decide⟩ : Fin 1) | 1 => (⟨0, by decide⟩ : Fin 1) | 2 => l 0 : S1x1x128.Idx) := by
    refine Shape.reshapeEquiv_eq_of_rowMajor _ ?_
    rw [Shape.rowMajor_val_three, Shape.rowMajor_val_one]
    show (0 * 1 + 0) * 128 + (l 0).val = (l 0).val
    omega
  show k1_off1 L a + 1 * (Shape.reshapeEquiv (squeezes_S1x1x128_S128).numel_eq l a).val = _
  rw [h, off1_val]
  match a with
  | 0 => rfl
  | 1 => rfl
  | 2 => show 0 + 1 * (l 0).val = (l 0).val; omega

/-- What the subcore fetches. -/
theorem row_read (d : Dev nD) (L : grid1.Coords) (g : Buf (Elt F) (tbLoc d)) :
    (rowK L).view.read (Elt F) g = tabRow g (wid L) := by
  have h0 := coord0_lt L
  funext l
  show g ((rowK L).view.emb l) = g _
  congr 1
  funext a
  refine Fin.ext ((row_emb L l a).trans ?_)
  match a with
  | 0 => show (L 1).val = (2 * (L 1).val + (L 0).val) / 2; omega
  | 1 => show (L 0).val = (2 * (L 1).val + (L 0).val) % 2; omega
  | 2 => rfl

/-- The table's entries that a task's row covers. -/
theorem mem_row (L : grid1.Coords) (x : S16x2x128.Idx) :
    x ∈ (rowK L).view.set ↔ (x 0).val = (L 1).val ∧ (x 1).val = (L 0).val := by
  constructor
  · intro hx
    obtain ⟨l, -, rfl⟩ := Finset.mem_map.mp hx
    exact ⟨row_emb L l 0, row_emb L l 1⟩
  · rintro ⟨h0, h1⟩
    refine Finset.mem_map.mpr ⟨Shape.ofLane (d := ![128]) (x 2), Finset.mem_univ _, ?_⟩
    funext a
    refine Fin.ext ((row_emb L _ a).trans ?_)
    match a with
    | 0 => exact h0.symm
    | 1 => exact h1.symm
    | 2 => rfl

/-! ## The block of the result -/

/-- Entry `y` of a task's block is 128 times the task's number further along both axes of the result. -/
theorem blk_emb (L : grid1.Coords) (y : S128x128.Idx) (a : Fin 2) :
    ((blkK L).view.emb y a).val = 128 * (wid L).val + (y a).val := by
  show k1_off10 L a + 1 * (y a).val = 128 * (2 * (L 1).val + (L 0).val) + (y a).val
  rw [off10_val]
  match a with
  | 0 => show 256 * (L 1).val + 128 * (L 0).val + 1 * (y 0).val = 128 * (2 * (L 1).val + (L 0).val) + (y 0).val; omega
  | 1 => show 256 * (L 1).val + 128 * (L 0).val + 1 * (y 1).val = 128 * (2 * (L 1).val + (L 0).val) + (y 1).val; omega

/-- An element's place in its block. -/
def blkIdx (x : S4096x4096.Idx) : S128x128.Idx
  | 0 => (⟨(x 0).val % 128, Nat.mod_lt _ (by decide)⟩ : Fin 128)
  | 1 => (⟨(x 1).val % 128, Nat.mod_lt _ (by decide)⟩ : Fin 128)

/-- The result's entries that a task's block covers: those of its diagonal block. -/
theorem mem_blk (L : grid1.Coords) (x : S4096x4096.Idx) :
    x ∈ (blkK L).view.set ↔ (x 0).val / 128 = (wid L).val ∧ (x 1).val / 128 = (wid L).val := by
  constructor
  · intro hx
    obtain ⟨y, -, rfl⟩ := Finset.mem_map.mp hx
    have e0 := blk_emb L y 0
    have e1 := blk_emb L y 1
    have := (show (y 0).val < 128 from (y 0).isLt)
    have := (show (y 1).val < 128 from (y 1).isLt)
    omega
  · rintro ⟨h0, h1⟩
    refine Finset.mem_map.mpr ⟨blkIdx x, Finset.mem_univ _, ?_⟩
    funext a
    refine Fin.ext ((blk_emb L _ a).trans ?_)
    match a with
    | 0 => show 128 * (wid L).val + (x 0).val % 128 = (x 0).val; omega
    | 1 => show 128 * (wid L).val + (x 1).val % 128 = (x 1).val; omega

/-- The whole result, from the table: on the `w`-th diagonal block what the `w`-th task leaves there; zero elsewhere. -/
def result (g : Vec F S16x2x128 .f32) : Vec F S4096x4096 .f32 := fun x =>
  if (x 0).val / 128 = (x 1).val / 128 then
    tileVal (tabRow g ⟨(x 0).val / 128, by have := (show (x 0).val < 4096 from (x 0).isLt); omega⟩)
      (blkIdx x)
  else zero

/-- A task's block of it. -/
theorem result_read (d : Dev nD) (L : grid1.Coords) (g : Buf (Elt F) (tbLoc d)) (y : S128x128.Idx) :
    (blkK L).view.read (Elt F) (result g : Buf (Elt F) (oLoc d)) y = tileVal ((rowK L).view.read (Elt F) g) y := by
  rw [row_read]
  show result g ((blkK L).view.emb y) = _
  have e0 := blk_emb L y 0
  have e1 := blk_emb L y 1
  have h0 := (show (y 0).val < 128 from (y 0).isLt)
  have h1 := (show (y 1).val < 128 from (y 1).isLt)
  unfold result
  rw [if_pos (by omega)]
  refine congr (congrArg (fun w => tileVal (tabRow g w)) (Fin.ext ?_)) ?_
  · show ((blkK L).view.emb y 0).val / 128 = (wid L).val
    omega
  · funext a
    match a with
    | 0 => refine Fin.ext ?_; show ((blkK L).view.emb y 0).val % 128 = (y 0).val; omega
    | 1 => refine Fin.ext ?_; show ((blkK L).view.emb y 1).val % 128 = (y 1).val; omega

/-- Different pairs of coordinates have different numbers. -/
theorem wid_inj {L L' : grid1.Coords} (h : (wid L).val = (wid L').val) : L = L' := by
  have a0 := coord0_lt L; have a0' := coord0_lt L'
  have e : 2 * (L 1).val + (L 0).val = 2 * (L' 1).val + (L' 0).val := h
  funext a
  match a with
  | 0 => exact Fin.ext (by omega)
  | 1 => exact Fin.ext (by omega)

/-- The coordinates of each of the tasks, as pairs. -/
abbrev pairs : Finset (Fin 2 × Fin 16) := Finset.univ
/-- The coordinates of a SparseCore and a subcore. -/
def pairV (p : Fin 2 × Fin 16) : grid1.Coords := coordsV p.1 p.2
/-- Different pairs have different coordinates. -/
theorem pairV_inj {p p' : Fin 2 × Fin 16} (h : pairV p = pairV p') : p = p' :=
  Prod.ext (congrFun h 0) (congrFun h 1)

/-- Different tasks write disjoint blocks. -/
theorem blks_disjoint : ∀ p ∈ pairs, ∀ p' ∈ pairs, p ≠ p' → Disjoint (blkK (pairV p)).view.set (blkK (pairV p')).view.set := by
  intro p _ p' _ hne
  refine Finset.disjoint_left.mpr fun x h h' => hne (pairV_inj (wid_inj ?_))
  exact ((mem_blk _ x).mp h).1.symm.trans ((mem_blk _ x).mp h').1

/-- Different tasks read disjoint rows. -/
theorem rows_disjoint : ∀ p ∈ pairs, ∀ p' ∈ pairs, p ≠ p' → Disjoint (rowK (pairV p)).view.set (rowK (pairV p')).view.set := by
  intro p _ p' _ hne
  refine Finset.disjoint_left.mpr fun x h h' => hne (Prod.ext (Fin.ext ?_) (Fin.ext ?_))
  · exact ((mem_row _ x).mp h).2.symm.trans ((mem_row _ x).mp h').2
  · exact ((mem_row _ x).mp h).1.symm.trans ((mem_row _ x).mp h').1

/-- Off every block, the result is zero. -/
theorem result_off (g : Vec F S16x2x128 .f32) (x : S4096x4096.Idx)
    (hx : x ∉ pairs.biUnion fun p => (blkK (pairV p)).view.set) : result g x = zero := by
  have h0 := (show (x 0).val < 4096 from (x 0).isLt)
  unfold result
  refine if_neg fun h => hx (Finset.mem_biUnion.mpr ⟨(⟨(x 0).val / 128 % 2, by omega⟩, ⟨(x 0).val / 256, by omega⟩), Finset.mem_univ _,
    (mem_blk _ x).mpr ?_⟩)
  show (x 0).val / 128 = 2 * ((x 0).val / 256) + (x 0).val / 128 % 2 ∧ (x 1).val / 128 = 2 * ((x 0).val / 256) + (x 0).val / 128 % 2
  omega

end Cert.KernelIdeal.Prf
-- ==== Proof.Launch.lean ====
/- The launch, around the tasks. The TensorCore reshapes the angles, runs its region (which clears the
   canvas and writes the table), copies the canvas into the result's buffer and starts the SparseCores;
   each of the 32 vector subcores is handed its row of the table and its block of the result, and
   brings them back with the block at the values `result` has there. -/
module

public import proofs.«01_k».proof.Proof.TileBody
public import proofs.«01_k».proof.Proof.Blocks

@[expose] public section

noncomputable section

namespace Cert.KernelIdeal.Prf

open Cert.KernelIdeal Cert.KernelIdeal.Gen Cert.KernelIdeal.Tile

open Idealize.ShloMosaic
open Idealize.ShloMosaic.SparseCore (S V)
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

/-- A row of the table, and a block of the result, at contents. -/
abbrev rowPts (d : Dev nD) (L : grid1.Coords) (g : Buf (Elt F) (tbLoc d)) : sProp 𝕄 :=
  tbLoc d ↦[(rowK L).view.set]{fullShare} g
/-- A task's block of the result at contents. -/
abbrev blkPts (d : Dev nD) (L : grid1.Coords) (f : Buf (Elt F) (oLoc d)) : sProp 𝕄 :=
  oLoc d ↦[(blkK L).view.set]{fullShare} f

/-- The result's buffer before the tasks. -/
abbrev clear (d : Dev nD) : Buf (Elt F) (oLoc d) := fun _ => (zero : F .f32)

section Pay

variable (T : (d : Dev nD) → Buf (Elt F) (tbLoc d))

/-- The result of the table at `T`. -/
abbrev res (d : Dev nD) : Buf (Elt F) (oLoc d) := result (T d)

/-- What a task is handed: its row of the table, its block of the cleared result. -/
abbrev goP (d : Dev nD) (L : grid1.Coords) : sProp 𝕄 := iprop(rowPts d L (T d) ∗ blkPts d L (clear d))
/-- What a task hands back: the row, and its block of the finished result. -/
abbrev tdP (d : Dev nD) (L : grid1.Coords) : sProp 𝕄 := iprop(rowPts d L (T d) ∗ blkPts d L (res T d))

/-- The one call takes, for each SparseCore, its sixteen subcores' rows and cleared blocks, and brings back the rows and
    the finished blocks. -/
def P : (K (F := F)).Pay (nD := nD) (Val := Elt F) (Name := ℕ) (U := UU) where
  st := fun q d c => match q with | 0 => bigSep Finset.univ fun i : Fin 16 => goP T d (pairV (Fin.cast nCore_zero c, i))
  dn := fun q d c => match q with | 0 => bigSep Finset.univ fun i : Fin 16 => tdP T d (pairV (Fin.cast nCore_zero c, i))
  go := fun q d c i => match q with | 0 => goP T d (pairV (Fin.cast nCore_zero c, Fin.cast nSub_zero i))
  td := fun q d c i => match q with | 0 => tdP T d (pairV (Fin.cast nCore_zero c, Fin.cast nSub_zero i))
  x := fun _ _ => iprop(emp)

/-- What the handshakes carry can be stored in an invariant. -/
instance P_storable : (P (F := F) T).IsStorable where
  st q d c := match q with
    | 0 => (inferInstance : BI.Storable (upEmb : UEmb _ 𝕄) (bigSep Finset.univ fun i : Fin 16 => goP T d (pairV (Fin.cast nCore_zero c, i))))
  dn q d c := match q with
    | 0 => (inferInstance : BI.Storable (upEmb : UEmb _ 𝕄) (bigSep Finset.univ fun i : Fin 16 => tdP T d (pairV (Fin.cast nCore_zero c, i))))
  go q d c i := match q with
    | 0 => (inferInstance : BI.Storable (upEmb : UEmb _ 𝕄) (goP T d (pairV (Fin.cast nCore_zero c, Fin.cast nSub_zero i))))
  td q d c i := match q with
    | 0 => (inferInstance : BI.Storable (upEmb : UEmb _ 𝕄) (tdP T d (pairV (Fin.cast nCore_zero c, Fin.cast nSub_zero i))))

/-- A subcore's task is the body at the subcore's coordinates. -/
theorem defs₀_vector (c : Fin τ.nSC) (s : Fin τ.nSub) :
    defs₀ (F := F) (.scVector c s) 1 ()
      = SparseCore.onTile hcore1 hsub1 (fun c s => cc1__sc_scatter_body (coordsV c s)
          tbV (Memref.isWhole_whole _) oV (Memref.isWhole_whole _) oV (Memref.isWhole_whole _)
          sV (Memref.isWhole_whole _) sB (Memref.isWhole_whole _) cc1_scratch2 cc1_scoped0) ⟨⟩ c s := rfl

/-- A wait the task left is one it had or one at the kernel's own index. -/
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

/-- The task is handed nothing besides its row and its block. -/
theorem obl_pre {A X B C : sProp 𝕄} : iprop(A ∗ X ∗ B ∗ C) ⊢ iprop(A ∗ B ∗ C) := by
  iintro ⟨HA, -, HB, HC⟩
  isplitl [HA]; · iexact HA
  isplitl [HB]; · iexact HB
  iexact HC

/-- Every subcore's task runs from what it is handed to what it brings back. -/
theorem tileObl (hF : (K (F := F)).Facts) : (K (F := F)).TileObl (D (F := F)) 𝒱 (P T) v₀ 0 := by
  intro d c i O W hO _ _
  simp only [show (P T).ox = fun _ _ => 0 from rfl, add_zero]
  change _ ⊢ wp _ _ _ (Pipeline.liftProg (defs₀ (F := F) (.scVector ((K (F := F)).core 0 c) ((K (F := F)).sub 0 i)) 1 ())) _
  refine BI.Entails.trans ?_ (Pipeline.wp_liftProg (D (F := F)) (Pipeline.defs_kernel pcfgs defs₀) 𝒱₀ _ Set.univ none _ _)
  have hc : ((K (F := F)).core 0 c).val < grid1.bound 0 ∧ ((K (F := F)).sub 0 i).val < grid1.bound 1 := ⟨c.isLt, i.isLt⟩
  rw [defs₀_vector]; simp only [SparseCore.onTile, hc, and_self, ↓reduceDIte]
  exact obl_pre.trans <| (tile_body d (coordsV ⟨_, hc.1⟩ ⟨_, hc.2⟩) hF O W hO (T d) (clear d) (res T d) (result_read d _ (T d))).trans
    (wp_mono frame _ _ fun _ => obl_post)

omit [FloatOps F] in
/-- A family over the call's subcores is one over sixteen. -/
theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)

/-- A SparseCore's share is its sixteen subcores' shares. -/
theorem vecSplit : (K (F := F)).VecSplit' (P T) 0 := by
  intro d c
  show iprop(bigSep Finset.univ fun i : Fin 16 => goP T d (pairV (Fin.cast nCore_zero c, i))) ⊢ |={Set.univ}=> iprop(
      (bigSep Finset.univ fun i : Fin ((K (F := F)).nSub 0) => goP T d (pairV (Fin.cast nCore_zero c, Fin.cast nSub_zero i)))
      ∗ ((bigSep Finset.univ fun i : Fin ((K (F := F)).nSub 0) => tdP T d (pairV (Fin.cast nCore_zero c, Fin.cast nSub_zero i)))
          -∗ bigSep Finset.univ fun i : Fin 16 => tdP T d (pairV (Fin.cast nCore_zero c, i))))
  rw [bigSep_tasks (F := F) (fun i => goP T d (pairV (Fin.cast nCore_zero c, i))),
    bigSep_tasks (F := F) (fun i => tdP T d (pairV (Fin.cast nCore_zero c, i)))]
  iintro H; imodintro
  isplitl [H]; · iexact H
  iintro H; iexact H

/-! ## Splitting the table and the result among the tasks -/

/-- What the two SparseCores are handed, as one family over the pairs. -/
theorem pairs_sep (Φ : grid1.Coords → sProp 𝕄) :
    (bigSep Finset.univ fun c : Fin 2 => bigSep Finset.univ fun i : Fin 16 => Φ (pairV (c, i))) = bigSep pairs fun p => Φ (pairV p) :=
  (bigSep_univ_prod fun p => Φ (pairV p)).symm

/-- The whole table and the cleared result split into the tasks' shares and the result's entries outside all blocks. -/
theorem st_intro (d : Dev nD) :
    iprop((tbLoc d ↦{fullShare} T d) ∗ (oLoc d ↦{fullShare} clear d))
      ⊢ iprop((bigSep Finset.univ fun c : Fin ((K (F := F)).nCore 0) => (P T).st 0 d c)
          ∗ (oLoc d ↦[Finset.univ \ pairs.biUnion fun p => (blkK (pairV p)).view.set]{fullShare} clear d : sProp 𝕄)) := by
  have hst : (bigSep Finset.univ fun c : Fin ((K (F := F)).nCore 0) => (P T).st 0 d c) = bigSep pairs fun p => goP T d (pairV p) :=
    pairs_sep (fun L => goP T d L)
  rw [hst, bigSep_sep']
  iintro ⟨Ht, Ho⟩
  ihave Ht' := (pointsTo_split_subset (Finset.subset_univ (pairs.biUnion fun p => (rowK (pairV p)).view.set))).1 $$ Ht
  icases Ht' with ⟨Ht, -⟩
  ihave Ho' := (pointsTo_split_subset (Finset.subset_univ (pairs.biUnion fun p => (blkK (pairV p)).view.set))).1 $$ Ho
  icases Ho' with ⟨Ho, Hr⟩
  ihave Ht := (Entails.of_eq (pointsTo_biUnion (ℓ := tbLoc d) (q := fullShare) (f := T d) pairs (fun p => (rowK (pairV p)).view.set) rows_disjoint)) $$ Ht
  ihave Ho := (Entails.of_eq (pointsTo_biUnion (ℓ := oLoc d) (q := fullShare) (f := clear d) pairs (fun p => (blkK (pairV p)).view.set) blks_disjoint)) $$ Ho
  isplitr [Hr]
  · isplitl [Ht]; · iexact Ht
    iexact Ho
  iexact Hr

/-- The tasks' shares, handed back, and the untouched entries make the whole finished result. -/
theorem dn_elim (d : Dev nD) :
    iprop((bigSep Finset.univ fun c : Fin ((K (F := F)).nCore 0) => (P T).dn 0 d c)
          ∗ (oLoc d ↦[Finset.univ \ pairs.biUnion fun p => (blkK (pairV p)).view.set]{fullShare} clear d : sProp 𝕄))
      ⊢ (oLoc d ↦{fullShare} res T d) := by
  have hdn : (bigSep Finset.univ fun c : Fin ((K (F := F)).nCore 0) => (P T).dn 0 d c) = bigSep pairs fun p => tdP T d (pairV p) :=
    pairs_sep (fun L => tdP T d L)
  have hr : (oLoc d ↦[Finset.univ \ pairs.biUnion fun p => (blkK (pairV p)).view.set]{fullShare} clear d : sProp 𝕄)
      = oLoc d ↦[Finset.univ \ pairs.biUnion fun p => (blkK (pairV p)).view.set]{fullShare} res T d :=
    pointsTo_congr fun x hx => (result_off (T d) x (Finset.mem_sdiff.mp hx).2).symm
  rw [hdn, bigSep_sep', hr]
  iintro ⟨⟨-, Ho⟩, Hr⟩
  iapply (pointsTo_split_subset (Finset.subset_univ (pairs.biUnion fun p => (blkK (pairV p)).view.set))).2
  isplitl [Ho]
  · iapply (Entails.of_eq (pointsTo_biUnion (ℓ := oLoc d) (q := fullShare) (f := res T d) pairs (fun p => (blkK (pairV p)).view.set) blks_disjoint).symm)
    iexact Ho
  iexact Hr

end Pay

end Cert.KernelIdeal.Prf
-- ==== Proof.Run.lean ====
/- The program's run: @main on the TensorCore from the launch's arrays to the result's buffer at
   `result` of the table, the launch's resources, and the run of all the device's threads. -/
module

public import proofs.«01_k».proof.Proof.Dense
public import proofs.«01_k».proof.Proof.Launch

@[expose] public section

noncomputable section

namespace Cert.KernelIdeal.Prf

open Cert.KernelIdeal Cert.KernelIdeal.Gen Cert.KernelIdeal.Tile

open Idealize.ShloMosaic Idealize.ShloMosaic.TcCoe
open Idealize.ShloMosaic.SparseCore (S V)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

/-! ## The arrays as @main changes them -/

section Vals

variable (m : (ℓ : Loc nD τ sig) → Buf (Elt F) ℓ)

/-- The arrays at launch; after the reshape; after the TensorCore's region; after the copy. -/
def val0 (d : Dev nD) : Valuation τ sig (Elt F) := fun b => m (d, b)
/-- The host's reshape of the angles. -/
abbrev opReshape : HloOp τ sig (Elt F) :=
  StableHlo.reshape main_arg0 main_v0 (rfl : (.f32 : EltTy) = .f32) shapeCasts_S2048_S16x1x128
/-- The host's copy of the canvas into the result's buffer. -/
abbrev opCopy : HloOp τ sig (Elt F) := StableHlo.unary main_v1_0 main_v2 id
/-- The arrays after the reshape. -/
def val1 (d : Dev nD) : Valuation τ sig (Elt F) := opReshape.result (val0 m d)
/-- The table, from the launch's angles. -/
def tab (d : Dev nD) : Buf (Elt F) (tbLoc d) :=
  tabOf (shapeCast S16x1x128 (m (a0Loc d) : Vec F S2048 .f32) shapeCasts_S2048_S16x1x128)
/-- The arrays after the TensorCore's region: the canvas zero, the table filled. -/
def val2 (d : Dev nD) : Valuation τ sig (Elt F) :=
  Function.update (Function.update (val1 m d) (Proc.devRef .tc main_v1_0) (fun _ => (zero : F .f32))) (Proc.devRef .tc main_v1_1) (tab m d)
/-- The arrays after the copy. -/
def val3 (d : Dev nD) : Valuation τ sig (Elt F) := opCopy.result (val2 m d)

/-- After the reshape its target holds the reshaped angles. -/
theorem val1_v0 (d : Dev nD) :
    val1 m d (Proc.devRef .tc main_v0) = shapeCast S16x1x128 (m (a0Loc d) : Vec F S2048 .f32) shapeCasts_S2048_S16x1x128 :=
  StableHlo.reshape_result _ _ _ _ _ _ _
/-- The reshape changes no other array. -/
theorem val1_ne (d : Dev nD) (b : Ref sig .tc) (h : b ≠ main_v0) : val1 m d (Proc.devRef .tc b) = m ((SparseCore.T d).loc b) :=
  StableHlo.reshape_result_ne (h := h) ..

/-- After the region the table is the launch's angles' table. -/
theorem val2_tab (d : Dev nD) : val2 m d (Proc.devRef .tc main_v1_1) = tab m d := by
  unfold val2; rw [Function.update_self]
/-- After the region the canvas is zero. -/
theorem val2_canvas (d : Dev nD) : val2 m d (Proc.devRef .tc main_v1_0) = fun _ => (zero : F .f32) := by
  unfold val2; rw [Function.update_of_ne (by decide), Function.update_self]
/-- The region changes no other array. -/
theorem val2_ne (d : Dev nD) (b : Ref sig .tc) (h0 : b ≠ main_v1_0) (h1 : b ≠ main_v1_1) :
    val2 m d (Proc.devRef .tc b) = val1 m d (Proc.devRef .tc b) := by
  unfold val2
  rw [Function.update_of_ne (StableHlo.devRef_ne_of_ne h1), Function.update_of_ne (StableHlo.devRef_ne_of_ne h0)]

/-- After the copy the result's buffer is zero. -/
theorem val3_out (d : Dev nD) : val3 m d (Proc.devRef .tc main_v2) = fun _ => (zero : F .f32) :=
  (StableHlo.unary_result _ _ _ _ _ _).trans (val2_canvas m d)
/-- The copy changes no other array. -/
theorem val3_ne (d : Dev nD) (b : Ref sig .tc) (h : b ≠ main_v2) : val3 m d (Proc.devRef .tc b) = val2 m d (Proc.devRef .tc b) :=
  StableHlo.unary_result_ne (h := h) ..
/-- After the copy an argument is as it was at launch. -/
theorem val3_arg (d : Dev nD) (b : Ref sig .tc) (h : b ≠ main_v2) (h0 : b ≠ main_v1_0) (h1 : b ≠ main_v1_1) (h2 : b ≠ main_v0) :
    val3 m d (Proc.devRef .tc b) = m ((SparseCore.T d).loc b) :=
  (val3_ne m d b h).trans ((val2_ne m d b h0 h1).trans (val1_ne m d b h2))

/-- The arrays of a device that live as long as the program. -/
def ucRefs : Finset (DevRef τ sig) := (StableHlo.tcRefs τ sig).filter fun b => ¬ b.isScoped

omit [FloatOps F] in
/-- The reshape's arrays live as long as the program. -/
theorem opReshape_sub : (opReshape (F := F)).bufs ⊆ ucRefs :=
  Finset.insert_subset (by decide) (Finset.singleton_subset_iff.mpr (by decide))
omit [FloatOps F] in
/-- The copy's arrays live as long as the program. -/
theorem opCopy_sub : (opCopy (F := F)).bufs ⊆ ucRefs :=
  Finset.insert_subset (by decide) (Finset.singleton_subset_iff.mpr (by decide))

omit [FloatOps F] in
/-- They, at a valuation. -/
theorem unscopedBufs_held (c : Dev nD) (W : Valuation τ sig (Elt F)) :
    (unscopedBufs c (fun b => W (Proc.devRef .tc b)) : sProp 𝕄) = StableHlo.held (c : Thread nD τ) ucRefs W := by
  unfold unscopedBufs StableHlo.held ucRefs StableHlo.tcRefs
  rw [Finset.filter_map, bigSep_map]
  rfl

omit [FloatOps F] in
/-- The arrays that live as long as the program, one by one. -/
theorem unscopedBufs_eq (d : Dev nD) (W : (b : Ref sig .tc) → Buf (Elt F) ((d.tc : Thread nD τ).loc b)) :
    (unscopedBufs d W : sProp 𝕄) = iprop((a0Loc d ↦{fullShare} W main_arg0) ∗ (a1Loc d ↦{fullShare} W main_arg1)
      ∗ (a2Loc d ↦{fullShare} W main_arg2) ∗ (v0Loc d ↦{fullShare} W main_v0) ∗ (cvLoc d ↦{fullShare} W main_v1_0)
      ∗ (tbLoc d ↦{fullShare} W main_v1_1) ∗ oLoc d ↦{fullShare} W main_v2) := by
  unfold unscopedBufs
  rw [show (Finset.univ.filter fun b : Ref sig .tc => ¬ b.isScoped)
      = {main_arg0, main_arg1, main_arg2, main_v0, main_v1_0, main_v1_1, main_v2} by decide,
    SparseCore.bigSep_insert' (by decide), SparseCore.bigSep_insert' (by decide), SparseCore.bigSep_insert' (by decide),
    SparseCore.bigSep_insert' (by decide), SparseCore.bigSep_insert' (by decide), SparseCore.bigSep_insert' (by decide), bigSep_singleton]

/-- What is held when the SparseCores are started. -/
theorem held_val3 (d : Dev nD) :
    (StableHlo.held (d : Thread nD τ) ucRefs (val3 m d) : sProp 𝕄) ⊢ iprop((a0Loc d ↦{fullShare} m (a0Loc d))
      ∗ (a1Loc d ↦{fullShare} m (a1Loc d)) ∗ (a2Loc d ↦{fullShare} m (a2Loc d))
      ∗ (tbLoc d ↦{fullShare} tab m d) ∗ oLoc d ↦{fullShare} clear d) := by
  rw [← unscopedBufs_held, unscopedBufs_eq]
  rw [val3_out, val3_arg m d main_arg0 (by decide) (by decide) (by decide) (by decide),
    val3_arg m d main_arg1 (by decide) (by decide) (by decide) (by decide),
    val3_arg m d main_arg2 (by decide) (by decide) (by decide) (by decide),
    val3_ne m d main_v1_1 (by decide), val2_tab]
  iintro ⟨H0, H1, H2, -, -, Ht, Ho⟩
  isplitl [H0]; · iexact H0
  isplitl [H1]; · iexact H1
  isplitl [H2]; · iexact H2
  isplitl [Ht]; · iexact Ht
  iexact Ho

end Vals

/-! ## The launch's resources -/

section Ghost

omit [FloatOps F] in
/-- The launch's element: the handshakes' rounds, and the pipeline's. -/
def u₀ : UU := (initOf (K (F := F)).hsCells (K (F := F)).hsToks,
  (initOf (Pipeline.cells cfgs cellOf_inj) (Pipeline.launchToks cfgs cellOf_inj), 1))

/-- What the pipeline's rounds give a device. -/
abbrev R (d : Dev nD) : sProp 𝕄 :=
  iprop(Pipeline.cellsGhost cfgs EP 0 d ∗ Pipeline.toksInit cfgs EP 0 d)

omit [FloatOps F] in
/-- The launch's element splits into the handshakes' part and the pipeline's. -/
theorem ownU_split (a : UH) (b : UP) : (ownU (a, (b, 1)) : sProp 𝕄) ⊢ iprop(BI.own (EH a) ∗ BI.own (EP b)) :=
  BI.own_op_elim ((uEmb (nD := nD) (sig := sig) (Ix := HIx 1) (Val := Elt F) (Name := ℕ) (U := UU) (Lvl := ℕ)).toEmb.op_of_mem
    (Prod.mk_mem_op (URA.mem_op_one a) (URA.mem_one_op ((b, 1) : UP × Counters))))

omit [FloatOps F] in
/-- The pipeline's part funds every device's region. -/
theorem R_intro : (BI.own (EP (initOf (Pipeline.cells cfgs cellOf_inj) (Pipeline.launchToks cfgs cellOf_inj))) : sProp 𝕄)
    ⊢ iprop(|==> bigSep Finset.univ fun d : Dev nD => R (F := F) d) := by
  iintro H
  imod (Pipeline.fund_ghost cfgs EP cellOf_inj) $$ H with ⟨Hg, Ht⟩
  imodintro
  rw [bigSep_sep']
  have h1 (Φ : Fin 1 → sProp 𝕄) : (bigSep Finset.univ Φ) = Φ 0 := bigSep_univ_of_subsingleton (0 : Fin 1)
  simp only [h1]
  isplitl [Hg]; · iexact Hg
  iexact Ht

variable (T : (d : Dev nD) → Buf (Elt F) (tbLoc d))

omit [FloatOps F] in
/-- A family of nothing is nothing. -/
theorem bigSep_emp' {I : Type} (s : Finset I) : (bigSep s fun _ => iprop(emp)) = (iprop(emp) : sProp 𝕄) := bigSep_emp_const s

/-- The launch's element gives the handshakes' rounds and each device's share of the pipeline's. -/
theorem hu₀ : (ownU (u₀ (F := F)) : sProp 𝕄)
    ⊢ |={Set.univ}=> iprop(BI.own (EH (initOf (K (F := F)).hsCells (K (F := F)).hsToks)) ∗ (bigSep Finset.univ fun d : Dev nD => R (F := F) d)
        ∗ bigSep Finset.univ fun thr : Thread nD τ => bigSep Finset.univ fun q : Fin 1 => (P T).x q thr) := by
  unfold u₀
  iintro Hu
  ihave H := (ownU_split _ _) $$ Hu
  icases H with ⟨HH, HP⟩
  imod (R_intro (F := F)) $$ HP with HR
  imodintro
  isplitl [HH]; · iexact HH
  isplitl [HR]; · iexact HR
  rw [show (fun thr : Thread nD τ => bigSep Finset.univ fun q : Fin 1 => (P T).x q thr) = fun _ => iprop(emp) from
    funext fun thr => bigSep_emp' Finset.univ, bigSep_emp']
  iempintro

end Ghost

/-! ## @main on the TensorCore -/

section Main

variable (m : (ℓ : Loc nD τ sig) → Buf (Elt F) ℓ) (ρ : Dev nD → PrngReg)

/-- What the TensorCore owes when the program starts, taken out of its state and put back. -/
theorem tcSt_take (d : Dev nD) :
    ((K (F := F)).tcSt EH d 0 : sProp 𝕄) ⊢ iprop(owesTC (F := F) d ∗ (owesTC (F := F) d -∗ (K (F := F)).tcSt EH d 0)) := by
  unfold SparseCore.Cfg.tcSt owesTC
  iintro ⟨H, Hrest⟩
  isplitl [H]; · iexact H
  iintro H
  isplitl [H]; · iexact H
  iexact Hrest

/-- The arrays around the TensorCore's region. -/
abbrev Wv : TcVal (F := F) := fun d b => val1 m d (Proc.devRef .tc b)
/-- The arrays after the region, by the TensorCore's names. -/
abbrev Wpv : TcVal (F := F) := fun d b => val2 m d (Proc.devRef .tc b)

/-- The canvas after the region is the region's second window after its last step. -/
theorem reg_h1 (c : Dev nD) : Wpv m c main_v1_0 = (dat (Wv m) c).arrAt 1 cfg0.N :=
  (val2_canvas m c).trans (canvas_final (Wv m) c).symm
/-- The table after the region is the region's third window after its last step. -/
theorem reg_h2 (c : Dev nD) : Wpv m c main_v1_1 = (dat (Wv m) c).arrAt 2 cfg0.N :=
  (val2_tab m c).trans ((congrArg tabOf (val1_v0 m c)).symm.trans (table_final (Wv m) c).symm)
/-- The region leaves the other arrays. -/
theorem reg_hne (c : Dev nD) (b : Ref sig .tc) (h0 : b ≠ main_v1_0) (h1 : b ≠ main_v1_1) : Wpv m c b = Wv m c b :=
  val2_ne m c b h0 h1

/-- The region from the arrays before it to the arrays after it. -/
abbrev regS := reg (Wv m) (Wpv m) (reg_h1 m) (reg_h2 m) (reg_hne m)

/-- The TensorCore's region inside @main: from the arrays after the reshape to the arrays it leaves. -/
theorem region_wp [∀ e, Nonempty (Elt F e)] (d : Dev nD) (Q : PUnit → sProp 𝕄) :
    iprop((iprop(boundary (SparseCore.T d) ∗ unscopedBufs d (Wpv m d) ∗ owesTC (F := F) d) -∗ Q ⟨⟩)
        ∗ boundary (SparseCore.T d) ∗ (unscopedBufs d (Wv m d) ∗ owesTC (F := F) d) ∗ levAts (K (F := F)).L (K (F := F)).lev ∗ R (F := F) d)
      ⊢ wp frame (wpE ((K (F := F)).defs (D (F := F))) 𝒱 (SparseCore.T d) none) Set.univ
          (Prog.lift (.customCall (SparseCore.inner (Pipeline.entry (0 : Fin 1))) ())) Q := by
  refine BIBase.Entails.trans ?_ ((K (F := F)).wp_liftProg (D (F := F)) 𝒱 (SparseCore.T d) Set.univ none
    (Prog.lift (.customCall (Pipeline.entry (0 : Fin 1)) ())) Q)
  refine BIBase.Entails.trans ?_ (Pipeline.RegionSeg.wp pcfgs adm (pdats (Wv m)) none cellOf_inj EP defs₀ 𝒱₀ (K (F := F)).L (K (F := F)).lev
    (regS m) d none (fun u hu => nomatch hu) (fun r => .ret r) Q)
  rw [show (regS m).pre d = iprop(unscopedBufs d (Wv m d) ∗ owesTC (F := F) d) from rfl,
    show (regS m).post d = iprop(unscopedBufs d (Wpv m d) ∗ owesTC (F := F) d) from rfl]
  iintro ⟨Hk, Hb, Hpre, Hla, Hg, Ht⟩
  isplitl [Hk]
  · iintro H
    rw [wp_ret]; imodintro
    iapply Hk; iexact H
  isplitl [Hb]; · iexact Hb
  isplitl [Hpre]; · iexact Hpre
  isplitl [Hla]; · iexact Hla
  isplitl [Hg]; · iexact Hg
  iexact Ht

/-- What @main leaves: the arguments as they were and the result. -/
abbrev FIN (d : Dev nD) : sProp 𝕄 :=
  iprop((a0Loc d ↦{fullShare} m (a0Loc d)) ∗ (a1Loc d ↦{fullShare} m (a1Loc d)) ∗ (a2Loc d ↦{fullShare} m (a2Loc d))
    ∗ oLoc d ↦{fullShare} res (tab m) d)

/-- @main on a device's TensorCore. -/
theorem hmain [∀ e, Nonempty (Elt F e)] (κ : GSem nD τ sig → ℕ) (d : Dev nD) :
    iprop((K (F := F)).ctx EH (P (tab m)) κ ∗ (K (F := F)).tcSt EH d 0 ∗ (K (F := F)).tcRes m ρ d ∗ R (F := F) d)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [show (fun b : Ref sig .tc => m ((SparseCore.T d).loc b)) = fun b => val0 m d (Proc.devRef .tc b) from rfl, unscopedBufs_held d (val0 m d)]
  simp only [main, wp_bind, wp_pure]
  iintro ⟨#Hctx, Hst, ⟨Hb, Hheld, Hts, -⟩, HR⟩
  ihave #Hla := ((K (F := F)).ctx_levAts) $$ Hctx
  -- the reshape
  iapply (StableHlo.wp_hlo_within 𝒱 (SparseCore.T d) none Set.univ (op := opReshape) (S := ucRefs) opReshape_sub (V := val0 m d)) $$ [Hb Hheld]
  · isplitl [Hb]; · iexact Hb
    iexact Hheld
  iintro ⟨Hb, Hheld⟩
  rw [wp_ret]; imodintro
  -- the region
  ihave Hub := (show (StableHlo.held (SparseCore.T d) ucRefs (opReshape.result (val0 m d)) : sProp 𝕄) ⊢ unscopedBufs d (Wv m d) from
    Entails.of_eq (unscopedBufs_held d (val1 m d)).symm) $$ Hheld
  ihave Hst' := (tcSt_take (F := F) d) $$ Hst
  icases Hst' with ⟨HO, Hback⟩
  iapply (region_wp m d _)
  isplitl [Hback Hts]
  · iintro ⟨Hb, Hub, HO⟩
    ihave Hst := Hback $$ HO
    ihave Hheld := (show (unscopedBufs d (Wpv m d) : sProp 𝕄) ⊢ StableHlo.held (SparseCore.T d) ucRefs (val2 m d) from
      Entails.of_eq (unscopedBufs_held d (val2 m d))) $$ Hub
    -- the copy
    iapply (StableHlo.wp_hlo_within 𝒱 (SparseCore.T d) none Set.univ (op := opCopy) (S := ucRefs) opCopy_sub (V := val2 m d)) $$ [Hb Hheld]
    · isplitl [Hb]; · iexact Hb
      iexact Hheld
    iintro ⟨Hb, Hheld⟩
    rw [wp_ret]; imodintro
    ihave H := (show (StableHlo.held (SparseCore.T d) ucRefs (opCopy.result (val2 m d)) : sProp 𝕄) ⊢ _ from held_val3 m d) $$ Hheld
    icases H with ⟨H0, H1, H2, Ht, Ho⟩
    ihave H := (st_intro (tab m) d) $$ [Ht Ho]
    · isplitl [Ht]; · iexact Ht
      iexact Ho
    icases H with ⟨Hgo, Hr⟩
    -- the SparseCores' call
    iapply ((K (F := F)).wp_run (D (F := F)) 𝒱 (EH := EH) (P := P (tab m)) κ d 0) $$ [Hst Hgo Hb Hts H0 H1 H2 Hr]
    isplitr; · iexact Hctx
    isplitl [Hst]; · iexact Hst
    isplitl [Hgo]; · iexact Hgo
    iintro ⟨Hst, Hdn⟩
    ihave Ho := (dn_elim (tab m) d) $$ [Hdn Hr]
    · isplitl [Hdn]; · iexact Hdn
      iexact Hr
    imodintro
    isplitl [Hst]; · iexact Hst
    isplitr [Hb Hts]
    · isplitl [H0]; · iexact H0
      isplitl [H1]; · iexact H1
      isplitl [H2]; · iexact H2
      iexact Ho
    isplitl [Hb]; · iexact Hb
    iexact Hts
  isplitl [Hb]; · iexact Hb
  isplitl [Hub HO]
  · isplitl [Hub]; · iexact Hub
    iexact HO
  isplitr; · iexact Hla
  iexact HR

/-- What a final memory satisfies on a device. -/
def fq (d : Dev nD) (s' : Phys nD τ sig (Elt F)) : Prop :=
  s'.mem.mem (a0Loc d) = m (a0Loc d) ∧ s'.mem.mem (a1Loc d) = m (a1Loc d) ∧ s'.mem.mem (a2Loc d) = m (a2Loc d)
    ∧ s'.mem.mem (oLoc d) = res (tab m) d

/-- What @main leaves determines the final memory at the arguments and the result. -/
theorem hfin (d : Dev nD) (s' : Phys nD τ sig (Elt F)) : iprop(FIN m d ∗ SI s') ⊢ (⌜fq m d s'⌝ : sProp 𝕄) := by
  iintro ⟨⟨H0, H1, H2, Ho⟩, HSI⟩
  ihave H := (persistent_entails_right (SI_pointsTo_agree (st := s') (ℓ := a0Loc d) (I := Finset.univ) (q := fullShare) (f := m (a0Loc d)))) $$ [HSI H0]
  · isplitl [HSI] <;> iassumption
  icases H with ⟨%h0, HSI, -⟩
  ihave H := (persistent_entails_right (SI_pointsTo_agree (st := s') (ℓ := a1Loc d) (I := Finset.univ) (q := fullShare) (f := m (a1Loc d)))) $$ [HSI H1]
  · isplitl [HSI] <;> iassumption
  icases H with ⟨%h1, HSI, -⟩
  ihave H := (persistent_entails_right (SI_pointsTo_agree (st := s') (ℓ := a2Loc d) (I := Finset.univ) (q := fullShare) (f := m (a2Loc d)))) $$ [HSI H2]
  · isplitl [HSI] <;> iassumption
  icases H with ⟨%h2, HSI, -⟩
  ihave H := (SI_pointsTo_agree (st := s') (ℓ := oLoc d) (I := Finset.univ) (q := fullShare) (f := res (tab m) d)) $$ [HSI Ho]
  · isplitl [HSI] <;> iassumption
  icases H with %h3
  ipureintro
  exact ⟨funext fun i => h0 i (Finset.mem_univ i), funext fun i => h1 i (Finset.mem_univ i), funext fun i => h2 i (Finset.mem_univ i),
    funext fun i => h3 i (Finset.mem_univ i)⟩

/-! ## The run of every thread -/

/-- The final state: arguments as they were, the result at `result` of the angles' table, every semaphore at zero. -/
def QC : PUnit × MemSt nD τ sig (Elt F) → Prop := fun r =>
  (∀ d : Dev nD, r.2.mem (a0Loc d) = m (a0Loc d) ∧ r.2.mem (a1Loc d) = m (a1Loc d) ∧ r.2.mem (a2Loc d) = m (a2Loc d)
    ∧ r.2.mem (oLoc d) = res (tab m) d) ∧ r.2.sem = fun _ => 0

/-- Every run of the program ends, with the arguments as they were, the result at `result` of the table of the launch's
    angles, and every semaphore at zero. -/
theorem run_main [∀ e, Nonempty (Elt F e)] :
    θ_run (defs (F := F)) (threads (F := F)) ⟨m, fun _ => 0, ρ⟩ (QC m) :=
  SparseCore.Cfg.θ_run_sc_quiescent (K := K (F := F)) (D := D (F := F)) (𝒱 := 𝒱) (EH := EH) (P := P (tab m)) (A := ∅) scFacts v₀
    (fun q hq => match q with | 0 => nomatch hq)
    (fun q _ => match q with | 0 => tileObl (tab m) scFacts)
    (fun q _ => match q with | 0 => SparseCore.Cfg.VecSplit.of_plain (vecSplit (tab m)))
    m ρ main (fun d => R (F := F) d) (FIN m) (u₀ (F := F)) (sep_elim_left.trans (hu₀ (tab m))) (hmain m ρ) (fq m) (hfin m) (QC m) (fun _ h hz => ⟨h, hz⟩)

end Main

end Cert.KernelIdeal.Prf
-- ==== Proof.TabValue.lean ====
/- The kernel's result, entry by entry, from the angles. The table's row for block `w` is the cosines of
   angles 64w … 64w+63 followed by their sines; block `w` of the result puts them on its diagonal and 32
   columns away from it. -/
module

public import proofs.«01_k».proof.Proof.Run
public import Idealize.ShloMosaic.Lib.Pipeline.Value
public import Idealize.ShloMosaic.Lib.ValueIdx

@[expose] public section

noncomputable section

namespace Cert.KernelIdeal.Prf

open Cert.KernelIdeal Cert.KernelIdeal.Gen Cert.KernelIdeal.Tile Idealize.ShloMosaic

variable {F : FTy → Type} [FloatOps F]

/-! ## The two table rows of one dense step -/

/-- The first 64 entries of a row of 128. -/
theorem seg_lo (y : FVec F S1x128 .f32) (l : Fin 64) :
    shapeCast S64 (extractStridedSlice S1x64 ![0, 0] y slices_S1x128_o0_0_S1x64) shapeCasts_S1x64_S64 (ValueIdx.ix1 l)
      = y (ValueIdx.ix2 (0 : Fin 1) (⟨l.val, by omega⟩ : Fin 128)) := by
  refine (shapeCast_apply _ _ _ (ValueIdx.ix2 (0 : Fin 1) l) ?_).trans (extractStridedSlice_apply _ _ _ _ _ fun a => ?_)
  · rw [Shape.rowMajor_val_two, Shape.rowMajor_val_one]
    show 0 * 64 + l.val = l.val
    omega
  · match a with
    | ⟨0, _⟩ => rfl
    | ⟨1, _⟩ => exact (Nat.zero_add _).symm

/-- The last 64 entries of a row of 128. -/
theorem seg_hi (y : FVec F S1x128 .f32) (l : Fin 64) :
    shapeCast S64 (extractStridedSlice S1x64 ![0, 64] y slices_S1x128_o0_64_S1x64) shapeCasts_S1x64_S64 (ValueIdx.ix1 l)
      = y (ValueIdx.ix2 (0 : Fin 1) (⟨64 + l.val, by omega⟩ : Fin 128)) := by
  refine (shapeCast_apply _ _ _ (ValueIdx.ix2 (0 : Fin 1) l) ?_).trans (extractStridedSlice_apply _ _ _ _ _ fun a => ?_)
  · rw [Shape.rowMajor_val_two, Shape.rowMajor_val_one]
    show 0 * 64 + l.val = l.val
    omega
  · match a with
    | ⟨0, _⟩ => rfl
    | ⟨1, _⟩ => rfl

/-- Two rows of 64 end to end, read in the first. -/
theorem join_lo (a b : FVec F S64 .f32) (l : Fin 64) :
    concatenate S128 0 [⟨S64, a⟩, ⟨S64, b⟩] concatenates_S64_S64_S128_d0 (ValueIdx.ix1 (⟨l.val, by omega⟩ : Fin 128)) = a (ValueIdx.ix1 l) :=
  concatenate_pair_apply_left (t := S128) (s₁ := S64) (s₂ := S64) 0 _ _ _ _ rfl (ValueIdx.ix1 l)
    (fun c => match c with | ⟨0, _⟩ => rfl)

/-- Two rows of 64 end to end, read in the second. -/
theorem join_hi (a b : FVec F S64 .f32) (l : Fin 64) :
    concatenate S128 0 [⟨S64, a⟩, ⟨S64, b⟩] concatenates_S64_S64_S128_d0 (ValueIdx.ix1 (⟨64 + l.val, by omega⟩ : Fin 128)) = b (ValueIdx.ix1 l) :=
  concatenate_pair_apply_right (t := S128) (s₁ := S64) (s₂ := S64) 0 _ _ _ _ rfl rfl (ValueIdx.ix1 l)
    (fun c hc => match c with | ⟨0, _⟩ => absurd rfl hc) (Nat.add_comm _ _)

/-- Two rows of 128 stacked, read in the first. -/
theorem stack_fst (a b : FVec F S128 .f32) (l : Fin 128) :
    shapeCast S1x2x128 (concatenate S2x128 0 [⟨S1x128, shapeCast S1x128 a shapeCasts_S128_S1x128⟩, ⟨S1x128, shapeCast S1x128 b shapeCasts_S128_S1x128⟩]
      concatenates_S1x128_S1x128_S2x128_d0) shapeCasts_S2x128_S1x2x128 (ValueIdx.ix3 (0 : Fin 1) (0 : Fin 2) l) = a (ValueIdx.ix1 l) := by
  refine (shapeCast_apply _ _ _ (ValueIdx.ix2 (0 : Fin 2) l) ?_).trans
    ((concatenate_pair_apply_left (t := S2x128) (s₁ := S1x128) (s₂ := S1x128) 0 _ _ _ _ rfl (ValueIdx.ix2 (0 : Fin 1) l) ?_).trans
      (shapeCast_apply _ _ _ (ValueIdx.ix1 l) ?_))
  · rw [Shape.rowMajor_val_two, Shape.rowMajor_val_three]; rfl
  · exact fun c => match c with | ⟨0, _⟩ => rfl | ⟨1, _⟩ => rfl
  · rw [Shape.rowMajor_val_two, Shape.rowMajor_val_one]
    show l.val = 0 * 128 + l.val
    omega

/-- Two rows of 128 stacked, read in the second. -/
theorem stack_snd (a b : FVec F S128 .f32) (l : Fin 128) :
    shapeCast S1x2x128 (concatenate S2x128 0 [⟨S1x128, shapeCast S1x128 a shapeCasts_S128_S1x128⟩, ⟨S1x128, shapeCast S1x128 b shapeCasts_S128_S1x128⟩]
      concatenates_S1x128_S1x128_S2x128_d0) shapeCasts_S2x128_S1x2x128 (ValueIdx.ix3 (0 : Fin 1) (1 : Fin 2) l) = b (ValueIdx.ix1 l) := by
  refine (shapeCast_apply _ _ _ (ValueIdx.ix2 (1 : Fin 2) l) ?_).trans
    ((concatenate_pair_apply_right (t := S2x128) (s₁ := S1x128) (s₂ := S1x128) 0 _ _ _ _ rfl rfl (ValueIdx.ix2 (0 : Fin 1) l) ?_ rfl).trans
      (shapeCast_apply _ _ _ (ValueIdx.ix1 l) ?_))
  · rw [Shape.rowMajor_val_two, Shape.rowMajor_val_three]
    show 1 * 128 + l.val = (0 * 2 + 1) * 128 + l.val
    omega
  · exact fun c hc => match c with | ⟨0, _⟩ => absurd rfl hc | ⟨1, _⟩ => rfl
  · rw [Shape.rowMajor_val_two, Shape.rowMajor_val_one]
    show l.val = 0 * 128 + l.val
    omega

/-- The step's reading of its 128 angles as a row. -/
theorem angles_row (v : Vec F S1x1x128 .f32) (l : Fin 128) :
    shapeCast S1x128 v shapeCasts_S1x1x128_S1x128 (ValueIdx.ix2 (0 : Fin 1) l) = v (ValueIdx.ix3 (0 : Fin 1) (0 : Fin 1) l) := by
  refine shapeCast_apply _ _ _ _ ?_
  rw [Shape.rowMajor_val_two, Shape.rowMajor_val_three]
  rfl

/-- The step's first table row, first half: cosines of the first 64 angles. -/
theorem pay_cos0 (v : Vec F S1x1x128 .f32) (l : Fin 64) :
    k0_pay2 v (ValueIdx.ix3 (0 : Fin 1) (0 : Fin 2) (⟨l.val, by omega⟩ : Fin 128)) = FloatOps.cos (v (ValueIdx.ix3 (0 : Fin 1) (0 : Fin 1) (⟨l.val, by omega⟩ : Fin 128))) :=
  (stack_fst _ _ _).trans ((join_lo _ _ l).trans ((seg_lo _ l).trans (congrArg FloatOps.cos (angles_row v _))))

/-- The step's first table row, second half: sines of the first 64 angles. -/
theorem pay_sin0 (v : Vec F S1x1x128 .f32) (l : Fin 64) :
    k0_pay2 v (ValueIdx.ix3 (0 : Fin 1) (0 : Fin 2) (⟨64 + l.val, by omega⟩ : Fin 128)) = FloatOps.sin (v (ValueIdx.ix3 (0 : Fin 1) (0 : Fin 1) (⟨l.val, by omega⟩ : Fin 128))) :=
  (stack_fst _ _ _).trans ((join_hi _ _ l).trans ((seg_lo _ l).trans (congrArg FloatOps.sin (angles_row v _))))

/-- The step's second table row, first half: cosines of the last 64 angles. -/
theorem pay_cos1 (v : Vec F S1x1x128 .f32) (l : Fin 64) :
    k0_pay2 v (ValueIdx.ix3 (0 : Fin 1) (1 : Fin 2) (⟨l.val, by omega⟩ : Fin 128)) = FloatOps.cos (v (ValueIdx.ix3 (0 : Fin 1) (0 : Fin 1) (⟨64 + l.val, by omega⟩ : Fin 128))) :=
  (stack_snd _ _ _).trans ((join_lo _ _ l).trans ((seg_hi _ l).trans (congrArg FloatOps.cos (angles_row v _))))

/-- The step's second table row, second half: sines of the last 64 angles. -/
theorem pay_sin1 (v : Vec F S1x1x128 .f32) (l : Fin 64) :
    k0_pay2 v (ValueIdx.ix3 (0 : Fin 1) (1 : Fin 2) (⟨64 + l.val, by omega⟩ : Fin 128)) = FloatOps.sin (v (ValueIdx.ix3 (0 : Fin 1) (0 : Fin 1) (⟨64 + l.val, by omega⟩ : Fin 128))) :=
  (stack_snd _ _ _).trans ((join_hi _ _ l).trans ((seg_hi _ l).trans (congrArg FloatOps.sin (angles_row v _))))

/-! ## The table from the angles -/

/-- The table of a list of angles. -/
def tabAng (θ : Vec F S2048 .f32) : Vec F S16x2x128 .f32 := tabOf (shapeCast S16x1x128 θ shapeCasts_S2048_S16x1x128)

/-- The reshaped angles: entry `(s, 0, j)` is angle `128 s + j`. -/
theorem angles_at (θ : Vec F S2048 .f32) (s : Fin 16) (j : Fin 128) :
    shapeCast S16x1x128 θ shapeCasts_S2048_S16x1x128 (ValueIdx.ix3 s (0 : Fin 1) j) = θ (ValueIdx.ix1 (⟨128 * s.val + j.val, by omega⟩ : Fin 2048)) := by
  refine shapeCast_apply _ _ _ _ ?_
  rw [Shape.rowMajor_val_three, Shape.rowMajor_val_one]
  show 128 * s.val + j.val = (s.val * 1 + 0) * 128 + j.val
  omega

/-- The table read through one dense step. -/
theorem tab_step (θ : Vec F S2048 .f32) (s : Fin 16) (h : Fin 2) (l : Fin 128) :
    tabAng θ (ValueIdx.ix3 s h l) = k0_pay2 (fun j : S1x1x128.Idx => shapeCast S16x1x128 θ shapeCasts_S2048_S16x1x128 (ValueIdx.ix3 s (0 : Fin 1) (j 2))) (ValueIdx.ix3 (0 : Fin 1) h l) := by
  unfold tabAng tabOf
  refine congr (congrArg k0_pay2 (funext fun j => congrArg _ (funext fun a => ?_))) (funext fun a => ?_)
  · match a with
    | ⟨0, _⟩ => rfl
    | ⟨1, _⟩ => exact Subsingleton.elim (α := Fin 1) _ _
    | ⟨2, _⟩ => rfl
  · match a with
    | ⟨0, _⟩ => rfl
    | ⟨1, _⟩ => rfl
    | ⟨2, _⟩ => rfl

/-- The `w`-th row of the table, first half: the cosine of angle `64 w + l`. -/
theorem row_cos (θ : Vec F S2048 .f32) (w : Fin 32) (l : Fin 64) :
    vAt (tabRow (tabAng θ) w) l.val = FloatOps.cos (θ (ValueIdx.ix1 (⟨64 * w.val + l.val, by omega⟩ : Fin 2048))) := by
  have e : vAt (tabRow (tabAng θ) w) l.val = tabAng θ (ValueIdx.ix3 (⟨w.val / 2, by omega⟩ : Fin 16) (⟨w.val % 2, Nat.mod_lt _ (by decide)⟩ : Fin 2) (⟨l.val, by omega⟩ : Fin 128)) := by
    unfold vAt tabRow
    refine congrArg _ (funext fun a => Fin.ext ?_)
    match a with
    | ⟨0, _⟩ => rfl
    | ⟨1, _⟩ => rfl
    | ⟨2, _⟩ => exact Nat.mod_eq_of_lt (by omega)
  rw [e, tab_step]
  rcases Nat.mod_two_eq_zero_or_one w.val with hw | hw
  · rw [show (⟨w.val % 2, Nat.mod_lt _ (by decide)⟩ : Fin 2) = 0 from Fin.ext hw, pay_cos0]
    refine congrArg FloatOps.cos ((angles_at θ _ _).trans (congrArg (fun i => θ (ValueIdx.ix1 i)) (Fin.ext ?_)))
    show 128 * (w.val / 2) + l.val = 64 * w.val + l.val
    omega
  · rw [show (⟨w.val % 2, Nat.mod_lt _ (by decide)⟩ : Fin 2) = 1 from Fin.ext hw, pay_cos1]
    refine congrArg FloatOps.cos ((angles_at θ _ _).trans (congrArg (fun i => θ (ValueIdx.ix1 i)) (Fin.ext ?_)))
    show 128 * (w.val / 2) + (64 + l.val) = 64 * w.val + l.val
    omega

/-- The `w`-th row of the table, second half: the sine of angle `64 w + l`. -/
theorem row_sin (θ : Vec F S2048 .f32) (w : Fin 32) (l : Fin 64) :
    vAt (tabRow (tabAng θ) w) (64 + l.val) = FloatOps.sin (θ (ValueIdx.ix1 (⟨64 * w.val + l.val, by omega⟩ : Fin 2048))) := by
  have e : vAt (tabRow (tabAng θ) w) (64 + l.val) = tabAng θ (ValueIdx.ix3 (⟨w.val / 2, by omega⟩ : Fin 16) (⟨w.val % 2, Nat.mod_lt _ (by decide)⟩ : Fin 2) (⟨64 + l.val, by omega⟩ : Fin 128)) := by
    unfold vAt tabRow
    refine congrArg _ (funext fun a => Fin.ext ?_)
    match a with
    | ⟨0, _⟩ => rfl
    | ⟨1, _⟩ => rfl
    | ⟨2, _⟩ => exact Nat.mod_eq_of_lt (by omega)
  rw [e, tab_step]
  rcases Nat.mod_two_eq_zero_or_one w.val with hw | hw
  · rw [show (⟨w.val % 2, Nat.mod_lt _ (by decide)⟩ : Fin 2) = 0 from Fin.ext hw, pay_sin0]
    refine congrArg FloatOps.sin ((angles_at θ _ _).trans (congrArg (fun i => θ (ValueIdx.ix1 i)) (Fin.ext ?_)))
    show 128 * (w.val / 2) + l.val = 64 * w.val + l.val
    omega
  · rw [show (⟨w.val % 2, Nat.mod_lt _ (by decide)⟩ : Fin 2) = 1 from Fin.ext hw, pay_sin1]
    refine congrArg FloatOps.sin ((angles_at θ _ _).trans (congrArg (fun i => θ (ValueIdx.ix1 i)) (Fin.ext ?_)))
    show 128 * (w.val / 2) + (64 + l.val) = 64 * w.val + l.val
    omega

/-! ## The result from the angles -/

/-- The angle of row `r`. -/
def angleK (r : Fin 4096) : Fin 2048 := ⟨(r.val / 64) * 32 + r.val % 32, by have := r.isLt; omega⟩

/-- On the diagonal: the cosine of the row's angle. -/
theorem result_diag (θ : Vec F S2048 .f32) (x : S4096x4096.Idx) (h : (x 1).val = (x 0).val) :
    result (tabAng θ) x = FloatOps.cos (θ (ValueIdx.ix1 (angleK (x 0)))) := by
  have hx : (x 0).val < 4096 := (x 0).isLt
  unfold result
  rw [if_pos (by rw [h])]
  unfold tileVal rows
  rw [if_pos (show (blkIdx x 1).val = (blkIdx x 0).val from (show (x 1).val % 128 = (x 0).val % 128 by rw [h])), if_pos (show (blkIdx x 0).val < 128 from (show (x 0).val % 128 < 128 by omega))]
  refine (row_cos θ _ (⟨lN ((x 0).val % 128), by unfold lN; omega⟩ : Fin 64)).trans
    (congrArg (fun i => FloatOps.cos (θ (ValueIdx.ix1 i))) (Fin.ext ?_))
  show 64 * ((x 0).val / 128) + lN ((x 0).val % 128) = (x 0).val / 64 * 32 + (x 0).val % 32
  unfold lN
  omega

/-- In the row's partner column: the signed sine of the row's angle. -/
theorem result_sin (θ : Vec F S2048 .f32) (x : S4096x4096.Idx) (h : (x 1).val = colN (x 0).val) :
    result (tabAng θ) x = sgnMul (FloatOps.sin (θ (ValueIdx.ix1 (angleK (x 0))))) (sgnW (x 0).val) := by
  have hx : (x 0).val < 4096 := (x 0).isLt
  unfold colN at h
  unfold result
  rw [if_pos (by omega)]
  unfold tileVal rows
  rw [if_neg (show ¬ (blkIdx x 1).val = (blkIdx x 0).val from (show ¬ (x 1).val % 128 = (x 0).val % 128 by omega)),
    if_pos (show (blkIdx x 1).val = colN (blkIdx x 0).val from (show (x 1).val % 128 = colN ((x 0).val % 128) by unfold colN; omega)), if_pos (show (blkIdx x 0).val < 128 from (show (x 0).val % 128 < 128 by omega))]
  have es : sgnW ((x 0).val % 128) = sgnW (x 0).val := by
    unfold sgnW
    rw [show (x 0).val % 128 / 32 % 2 = (x 0).val / 32 % 2 by omega]
  refine congr (congrArg sgnMul ((row_sin θ _ (⟨lN ((x 0).val % 128), by unfold lN; omega⟩ : Fin 64)).trans
    (congrArg (fun i => FloatOps.sin (θ (ValueIdx.ix1 i))) (Fin.ext ?_)))) es
  show 64 * ((x 0).val / 128) + lN ((x 0).val % 128) = (x 0).val / 64 * 32 + (x 0).val % 32
  unfold lN
  omega

/-- Everywhere else: zero. -/
theorem result_zero (g : Vec F S16x2x128 .f32) (x : S4096x4096.Idx) (h : (x 1).val ≠ (x 0).val) (h' : (x 1).val ≠ colN (x 0).val) :
    result g x = zero := by
  have hx : (x 0).val < 4096 := (x 0).isLt
  have hy : (x 1).val < 4096 := (x 1).isLt
  unfold colN at h'
  unfold result
  by_cases hb : (x 0).val / 128 = (x 1).val / 128
  · rw [if_pos hb]
    unfold tileVal rows
    rw [if_neg (show ¬ (blkIdx x 1).val = (blkIdx x 0).val from (show ¬ (x 1).val % 128 = (x 0).val % 128 by omega)),
      if_neg (show ¬ (blkIdx x 1).val = colN (blkIdx x 0).val from (show ¬ (x 1).val % 128 = colN ((x 0).val % 128) by unfold colN; omega))]
  · rw [if_neg hb]

end Cert.KernelIdeal.Prf

end
-- ==== Proof.RefValue.lean ====
/- The reference's result, entry by entry, when the two index lists pair each row with the row 32 further.
   It scatters four lists of 2048 numbers into the identity: the cosines at (p, p) and (q, q), the negated
   sines at (p, q), the sines at (q, p). Angle k has p = (k/32)·64 + k mod 32 and q = p + 32, so every row is
   p or q of exactly one angle. -/
module

public import proofs.«01_k».proof.Proof.Gen.ReferenceIdeal.Run
public import proofs.«01_k».proof.Pre_butterfly_pairs
public import Idealize.ShloMosaic.Lib.Routing.OpsSet

@[expose] public section

noncomputable section

namespace Cert.ReferenceIdeal.Prf

open Cert.ReferenceIdeal Cert.ReferenceIdeal.Gen Idealize.ShloMosaic Idealize.ShloMosaic.ValueIdx

variable {F : FTy → Type} [FloatOps F]

/-! ## Where a scatter's update lands -/

/-- Update `k` reads entry `q` of row `k` of the index pairs. -/
theorem pair_at (k : Fin 2048) (q : Fin 2) :
    scatter_S4096x4096_S2048x2_S2048_n_01_01_1.siIdx (ix1 k) q = ix2 k q := by
  funext b
  match b with
  | ⟨0, _⟩ => rfl
  | ⟨1, _⟩ => rfl

/-- Update `k` lands at the row and column that its pair of index words names. -/
theorem lands (idx : IVec S2048x2 32) (k : Fin 2048) (x : S4096x4096.Idx) :
    scatter_S4096x4096_S2048x2_S2048_n_01_01_1.resultIdx? (ix1 k) idx = some x ↔
      (idx (ix2 k (0 : Fin 2))).toInt = ((x 0).val : Int) ∧ (idx (ix2 k (1 : Fin 2))).toInt = ((x 1).val : Int) := by
  have e0 : scatter_S4096x4096_S2048x2_S2048_n_01_01_1.start (ix1 k) idx 0 = (idx (ix2 k (0 : Fin 2))).toInt :=
    congrArg (fun i => (idx i).toInt) (pair_at k 0)
  have e1 : scatter_S4096x4096_S2048x2_S2048_n_01_01_1.start (ix1 k) idx 1 = (idx (ix2 k (1 : Fin 2))).toInt :=
    congrArg (fun i => (idx i).toInt) (pair_at k 1)
  have w0 : scatter_S4096x4096_S2048x2_S2048_n_01_01_1.window (ix1 k) 0 = 0 := rfl
  have w1 : scatter_S4096x4096_S2048x2_S2048_n_01_01_1.window (ix1 k) 1 = 0 := rfl
  rw [Routing.resultIdx?_eq_some]
  constructor
  · intro h
    have h0 := h 0
    have h1 := h 1
    rw [e0, w0] at h0
    rw [e1, w1] at h1
    exact ⟨by simpa using h0, by simpa using h1⟩
  · rintro ⟨h0, h1⟩ a
    match a with
    | ⟨0, _⟩ => show _ + ((scatter_S4096x4096_S2048x2_S2048_n_01_01_1.window (ix1 k) 0 : ℕ) : Int) = _
                rw [w0]; exact (congrArg (· + (0 : Int)) e0).trans (by simpa using h0)
    | ⟨1, _⟩ => show _ + ((scatter_S4096x4096_S2048x2_S2048_n_01_01_1.window (ix1 k) 1 : ℕ) : Int) = _
                rw [w1]; exact (congrArg (· + (0 : Int)) e1).trans (by simpa using h1)

/-! ## The index words -/

/-- Different words compare unequal. -/
theorem cmpi_ne {w : ℕ} {u v : BitVec w} (h : u ≠ v) : IntOp.cmpi .eq u v = 0#1 := by
  show BitVec.ofBool (u == v) = 0#1
  rw [beq_eq_false_iff_ne.2 h]
  rfl

/-- A list of row numbers as the reference reads it: a negative one counts from the end. -/
def wrap (a : IVec S2048 32) : IVec S2048 32 :=
  select (cmpi .slt a (broadcastInDim S2048 ![] bcast_S_S2048 (constantI S_ 32 0#32)))
    (addi a (broadcastInDim S2048 ![] bcast_S_S2048 (constantI S_ 32 4096#32))) a

/-- Two lists of row numbers side by side, as one list of pairs. -/
def pairIdx (a b : IVec S2048 32) : IVec S2048x2 32 :=
  concatenate S2048x2 1 [⟨S2048x1, broadcastInDim S2048x1 ![0] bcast_S2048_S2048x1_0 (wrap a)⟩,
    ⟨S2048x1, broadcastInDim S2048x1 ![0] bcast_S2048_S2048x1_0 (wrap b)⟩] concatenates_S2048x1_S2048x1_S2048x2_d1

/-- A word that is not negative is read as it is. -/
theorem wrap_apply (a : IVec S2048 32) (k : Fin 2048) (h : (a (ix1 k)).toNat < 2 ^ 31) :
    wrap a (ix1 k) = a (ix1 k) := by
  show Scalar.select (IntOp.cmpi .slt (a (ix1 k)) 0#32) _ (a (ix1 k)) = _
  exact Routing.wrap_of_lt _ _ h

/-- The first word of a pair. -/
theorem pairIdx_fst (a b : IVec S2048 32) (k : Fin 2048) : pairIdx a b (ix2 k (0 : Fin 2)) = wrap a (ix1 k) := by
  refine (concatenate_pair_apply_left (t := S2048x2) (s₁ := S2048x1) (s₂ := S2048x1) 1 _ _ _ _ rfl (ix2 k (0 : Fin 1)) (fun b => ?_)).trans ?_
  · match b with
    | ⟨0, _⟩ => rfl
    | ⟨1, _⟩ => rfl
  · show wrap a _ = _
    exact congrArg (wrap a) (funext fun c => match c with | ⟨0, _⟩ => rfl)

/-- The second word of a pair. -/
theorem pairIdx_snd (a b : IVec S2048 32) (k : Fin 2048) : pairIdx a b (ix2 k (1 : Fin 2)) = wrap b (ix1 k) := by
  refine (concatenate_pair_apply_right (t := S2048x2) (s₁ := S2048x1) (s₂ := S2048x1) 1 _ _ _ _ rfl rfl (ix2 k (0 : Fin 1)) (fun b hb => ?_) rfl).trans ?_
  · match b with
    | ⟨0, _⟩ => rfl
    | ⟨1, _⟩ => exact absurd rfl hb
  · show wrap b _ = _
    exact congrArg (wrap b) (funext fun c => match c with | ⟨0, _⟩ => rfl)

/-! ## One scatter -/

/-- A list of row numbers that names row `f k` for angle `k`. -/
def Names (a : IVec S2048 32) (f : ℕ → ℕ) : Prop := ∀ k : Fin 2048, (wrap a (ix1 k)).toInt = (f k.val : Int)

variable {α : Type}

/-- The scatter of `u` at the pairs of `a` and `b`, where a pair lands: the landing angle's entry of `u`. -/
theorem scatter_hit {a b : IVec S2048 32} {f g : ℕ → ℕ} (ha : Names a f) (hb : Names b g)
    (x0 : S4096x4096.Idx → α) (u : S2048.Idx → α) (x : S4096x4096.Idx) (k : Fin 2048)
    (h0 : f k.val = (x 0).val) (h1 : g k.val = (x 1).val)
    (hf : ∀ j : Fin 2048, f j.val = f k.val → j = k) :
    Host.scatter scatter_S4096x4096_S2048x2_S2048_n_01_01_1 (fun _ b => b) x0 (pairIdx a b) u x = u (ix1 k) := by
  refine Routing.scatter_set_hit _ _ _ _ _ _ (fun j hj => ?_) (ix1 k) ?_
  · obtain ⟨j, rfl⟩ : ∃ j', j = ix1 j' := ⟨_, eq_ix1 j⟩
    rw [lands, pairIdx_fst, ha] at hj
    rw [hf j (by have := hj.1; omega)]
  · rw [lands, pairIdx_fst, pairIdx_snd, ha, hb]
    exact ⟨by omega, by omega⟩

/-- The same scatter where no pair lands: the operand. -/
theorem scatter_miss {a b : IVec S2048 32} {f g : ℕ → ℕ} (ha : Names a f) (hb : Names b g)
    (x0 : S4096x4096.Idx → α) (u : S2048.Idx → α) (x : S4096x4096.Idx)
    (h : ∀ k : Fin 2048, ¬ (f k.val = (x 0).val ∧ g k.val = (x 1).val)) :
    Host.scatter scatter_S4096x4096_S2048x2_S2048_n_01_01_1 (fun _ b => b) x0 (pairIdx a b) u x = x0 x := by
  refine Routing.scatter_set_miss _ _ _ _ _ (fun j hj => ?_)
  obtain ⟨j, rfl⟩ : ∃ j', j = ix1 j' := ⟨_, eq_ix1 j⟩
  rw [lands, pairIdx_fst, pairIdx_snd, ha, hb] at hj
  exact h j ⟨by have := hj.1; omega, by have := hj.2; omega⟩

/-! ## The whole reference -/

/-- The first row of angle `k`. -/
def pRow (k : ℕ) : ℕ := k / 32 * 64 + k % 32
/-- The second row of angle `k`. -/
def qRow (k : ℕ) : ℕ := pRow k + 32

/-- The identity the reference starts from. -/
def eyeM : FVec F S4096x4096 .f32 :=
  uitofp .f32 (cmpi .eq (addi (iotaInDim S4096x4096 32 0) (broadcastInDim S4096x4096 ![] bcast_S_S4096x4096 (constantI S_ 32 0#32))) (iotaInDim S4096x4096 32 1))

/-- The reference's result as a term of its three arguments. -/
def refTerm (θ : FVec F S2048 .f32) (a b : IVec S2048 32) : FVec F S4096x4096 .f32 :=
  Host.scatter scatter_S4096x4096_S2048x2_S2048_n_01_01_1 (fun _ b => b)
    (Host.scatter scatter_S4096x4096_S2048x2_S2048_n_01_01_1 (fun _ b => b)
      (Host.scatter scatter_S4096x4096_S2048x2_S2048_n_01_01_1 (fun _ b => b)
        (Host.scatter scatter_S4096x4096_S2048x2_S2048_n_01_01_1 (fun _ b => b) eyeM (pairIdx a a) (Host.cos θ))
        (pairIdx b b) (Host.cos θ)) (pairIdx a b) (Host.negf (Host.sin θ))) (pairIdx b a) (Host.sin θ)

/-- The angle of row `r`. -/
def angle (r : Fin 4096) : Fin 2048 := ⟨(r.val / 64) * 32 + r.val % 32, by have := r.isLt; omega⟩

variable {a b : IVec S2048 32}

/-- On the diagonal: the cosine of the row's angle. -/
theorem ref_diag (ha : Names a pRow) (hb : Names b qRow) (θ : FVec F S2048 .f32) (x : S4096x4096.Idx)
    (h : (x 1).val = (x 0).val) : refTerm θ a b x = Host.cos θ (ix1 (angle (x 0))) := by
  unfold refTerm
  have hx : (x 0).val < 4096 := (x 0).isLt
  rw [scatter_miss hb ha _ _ _ (fun k hk => by unfold qRow at hk; omega),
    scatter_miss ha hb _ _ _ (fun k hk => by unfold qRow at hk; omega)]
  by_cases hp : ((x 0).val / 32) % 2 = 1
  · exact scatter_hit hb hb _ _ _ (angle (x 0)) (by simp only [angle, qRow, pRow]; omega)
      (by simp only [angle, qRow, pRow]; omega) (fun j hj => Fin.ext (by unfold qRow pRow at hj; omega))
  · rw [scatter_miss hb hb _ _ _ (fun k hk => by unfold qRow pRow at hk; omega)]
    exact scatter_hit ha ha _ _ _ (angle (x 0)) (by simp only [angle, pRow]; omega)
      (by simp only [angle, pRow]; omega) (fun j hj => Fin.ext (by unfold pRow at hj; omega))

/-- 32 columns before the diagonal, in an angle's second row: the sine of the row's angle. -/
theorem ref_low (ha : Names a pRow) (hb : Names b qRow) (θ : FVec F S2048 .f32) (x : S4096x4096.Idx)
    (hp : ((x 0).val / 32) % 2 = 1) (h : (x 1).val + 32 = (x 0).val) :
    refTerm θ a b x = Host.sin θ (ix1 (angle (x 0))) := by
  unfold refTerm
  have hx : (x 0).val < 4096 := (x 0).isLt
  exact scatter_hit hb ha _ _ _ (angle (x 0)) (by simp only [angle, qRow, pRow]; omega)
      (by simp only [angle, pRow]; omega) (fun j hj => Fin.ext (by unfold qRow pRow at hj; omega))

/-- 32 columns after the diagonal, in an angle's first row: the negated sine of the row's angle. -/
theorem ref_high (ha : Names a pRow) (hb : Names b qRow) (θ : FVec F S2048 .f32) (x : S4096x4096.Idx)
    (hp : ((x 0).val / 32) % 2 = 0) (h : (x 1).val = (x 0).val + 32) :
    refTerm θ a b x = Host.negf (Host.sin θ) (ix1 (angle (x 0))) := by
  unfold refTerm
  have hx : (x 0).val < 4096 := (x 0).isLt
  rw [scatter_miss hb ha _ _ _ (fun k hk => by unfold qRow at hk; omega)]
  exact scatter_hit ha hb _ _ _ (angle (x 0)) (by simp only [angle, pRow]; omega)
      (by simp only [angle, qRow, pRow]; omega) (fun j hj => Fin.ext (by unfold pRow at hj; omega))

/-- Everywhere else: the identity's entry off its diagonal. -/
theorem ref_off (ha : Names a pRow) (hb : Names b qRow) (θ : FVec F S2048 .f32) (x : S4096x4096.Idx)
    (hd : (x 1).val ≠ (x 0).val) (hl : ¬ (((x 0).val / 32) % 2 = 1 ∧ (x 1).val + 32 = (x 0).val))
    (hh : ¬ (((x 0).val / 32) % 2 = 0 ∧ (x 1).val = (x 0).val + 32)) :
    refTerm θ a b x = FloatOps.uitofp .f32 0#1 := by
  unfold refTerm
  rw [scatter_miss hb ha _ _ _ (fun k hk => hl (by unfold qRow pRow at hk; omega)),
    scatter_miss ha hb _ _ _ (fun k hk => hh (by unfold qRow pRow at hk; omega)),
    scatter_miss hb hb _ _ _ (fun k hk => hd (by omega)),
    scatter_miss ha ha _ _ _ (fun k hk => hd (by omega))]
  show FloatOps.uitofp .f32 (IntOp.cmpi .eq (BitVec.ofNat 32 (x 0).val + 0#32) (BitVec.ofNat 32 (x 1).val)) = _
  congr 1
  have h0 : (x 0).val < 4096 := (x 0).isLt
  have h1 : (x 1).val < 4096 := (x 1).isLt
  rw [BitVec.add_zero]
  have : BitVec.ofNat 32 (x 0).val ≠ BitVec.ofNat 32 (x 1).val := fun e => by
    have := congrArg BitVec.toNat e
    simp only [BitVec.toNat_ofNat] at this
    omega
  exact cmpi_ne this

/-! ## The precondition read -/

/-- The word the precondition computes for angle `k`'s first row. -/
def preWord (k : Fin 2048) : BitVec 32 :=
  IntOp.addi (IntOp.shli .host (IntOp.shrsi .host (BitVec.ofNat 32 k.val) 5#32) 6#32) (IntOp.andi (BitVec.ofNat 32 k.val) 31#32)

/-- That word is the first row's number, below the matrix's extent. -/
theorem preWord_eq : ∀ k : Fin 2048, (preWord k).toNat = pRow k.val ∧ (preWord k + 32#32).toNat = qRow k.val ∧ qRow k.val < 4096 := by
  decide +kernel

/-- Under the precondition the two lists name the two rows of every angle. -/
theorem names_of_pre [Cert.Pre_butterfly_pairs.Facts] (θ : FVec F S2048 .f32) (a b : IVec S2048 32)
    (h : Cert.Pre_butterfly_pairs.fn θ a b = fun _ => 1#1) : Names a pRow ∧ Names b qRow := by
  have key : ∀ k : Fin 2048, a (ix1 k) = preWord k ∧ b (ix1 k) = preWord k + 32#32 := by
    intro k
    have hk : IntOp.andi (IntOp.cmpi .eq (a (ix1 k)) (preWord k)) (IntOp.cmpi .eq (b (ix1 k)) (preWord k + 32#32)) = 1#1 :=
      congrFun h (ix1 k)
    generalize preWord k = w at hk
    by_cases e1 : a (ix1 k) = w <;> by_cases e2 : b (ix1 k) = w + 32#32
    · exact ⟨e1, e2⟩
    · rw [cmpi_ne e2] at hk
      exact absurd hk (by generalize IntOp.cmpi .eq (a (ix1 k)) w = c; revert c; decide)
    all_goals
      rw [cmpi_ne e1] at hk
      exact absurd hk (by generalize IntOp.cmpi .eq (b (ix1 k)) (w + 32#32) = c; revert c; decide)
  refine ⟨fun k => ?_, fun k => ?_⟩
  · obtain ⟨e, -⟩ := key k
    obtain ⟨h0, -, h2⟩ := preWord_eq k
    unfold qRow at h2
    rw [wrap_apply _ _ (by rw [e]; omega), e, BitVec.toInt_eq_toNat_of_lt (by omega), h0]
  · obtain ⟨-, e⟩ := key k
    obtain ⟨-, h0, h2⟩ := preWord_eq k
    rw [wrap_apply _ _ (by rw [e]; omega), e, BitVec.toInt_eq_toNat_of_lt (by omega), h0]

end Cert.ReferenceIdeal.Prf

end
-- ==== Proof.Agree.lean ====
/- The kernel's result and the reference's are the same matrix on the extended reals, when the two index
   lists pair each row with the row 32 further. -/
module

public import proofs.«01_k».proof.Proof.TabValue
public import proofs.«01_k».proof.Proof.RefValue

@[expose] public section

noncomputable section

namespace Cert.Agree

open Idealize.ShloMosaic Cert.KernelIdeal.Tile Cert.KernelIdeal.Prf Cert.ReferenceIdeal.Prf

/-- A product with the converted word one changes nothing. -/
theorem sgn_one (x : Ideal .f32) : sgnMul (F := Ideal) x 1#32 = x := by
  show x * (((1#32 : BitVec 32).toInt : ℝ) : EReal) = x
  rw [show (1#32 : BitVec 32).toInt = 1 from by decide]
  simp

/-- A product with the converted word minus one negates. -/
theorem sgn_neg (x : Ideal .f32) : sgnMul (F := Ideal) x 4294967295#32 = (-x : EReal) := by
  show x * (((4294967295#32 : BitVec 32).toInt : ℝ) : EReal) = -x
  rw [show (4294967295#32 : BitVec 32).toInt = -1 from by decide]
  simp

/-- The cleared entry is the identity matrix's entry off its diagonal. -/
theorem zero_eq : (zero : Ideal .f32) = FloatOps.uitofp .f32 0#1 := by
  show Ideal.ofBits .f32 0x00000000#32 = (((0#1 : BitVec 1).toNat : ℝ) : EReal)
  rw [Ideal.ofBits_zero_f32]
  simp

/-- The two results are equal. -/
theorem value_eq (θ : FVec Ideal Cert.ReferenceIdeal.S2048 .f32) (a b : IVec Cert.ReferenceIdeal.S2048 32)
    (ha : Names a pRow) (hb : Names b qRow) :
    refTerm (F := Ideal) θ a b = result (F := Ideal) (tabAng (F := Ideal) θ) := by
  funext x
  have hx : (x 0).val < 4096 := (x 0).isLt
  by_cases hd : (x 1).val = (x 0).val
  · exact (ref_diag (F := Ideal) ha hb θ x hd).trans (result_diag (F := Ideal) θ x hd).symm
  by_cases hc : (x 1).val = colN (x 0).val
  · refine Eq.trans ?_ (result_sin (F := Ideal) θ x hc).symm
    unfold colN at hc
    by_cases hp : ((x 0).val / 32) % 2 = 1
    · rw [show sgnW (x 0).val = 1#32 from if_pos hp, sgn_one]
      exact ref_low (F := Ideal) ha hb θ x hp (by omega)
    · rw [show sgnW (x 0).val = 4294967295#32 from if_neg hp, sgn_neg]
      exact ref_high (F := Ideal) ha hb θ x (by omega) (by omega)
  · refine Eq.trans ?_ ((result_zero (F := Ideal) _ x hd hc).trans zero_eq).symm
    unfold colN at hc
    exact ref_off (F := Ideal) ha hb θ x hd (by omega) (by omega)

end Cert.Agree

end
-- ==== Proof.lean ====
/- The claims about the butterfly matrix: the kernel, at hardware words and on the extended reals, and the
   reference run to the end from any memory and leave their arguments as they were and every semaphore at
   zero; and on the extended reals the kernel's matrix is the reference's whenever the two index lists pair
   each row with the row 32 further. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.ReferenceIdeal
public import proofs.«01_k».proof.Proof.Gen.ReferenceIdeal.Run
public import proofs.«01_k».proof.Proof.Bitwise.Run
public import proofs.«01_k».proof.Proof.Agree
public import Idealize.ShloMosaic.Adequacy
public import Idealize.ShloMosaic.Init

@[expose] public section

noncomputable section

namespace Cert.Proof

open Idealize.ShloMosaic Idealize.SL.Sem

/-- The shape fact that the precondition's text cites. -/
theorem preFacts : Cert.Pre_butterfly_pairs.Facts := ⟨by decide⟩

/-- The kernel at hardware words runs to the end, its arguments unchanged and every counter at zero. -/
theorem frame_kernel : @Cert.quiescent_Kernel Cert.Kernel.Gen.facts := fun m ρ _ =>
  (θ_run Cert.Kernel.defs _ _).mono (fun _ h => ⟨fun c => ⟨(h.1 c).1, (h.1 c).2.1, (h.1 c).2.2.1⟩, h.2⟩)
    (Cert.Kernel.Prf.run_main (F := Bits) m ρ)

/-- The kernel on the extended reals runs to the end, its arguments unchanged and every counter at zero. -/
theorem frame_ideal : @Cert.quiescent_KernelIdeal Cert.KernelIdeal.Gen.facts := fun m ρ _ =>
  (θ_run Cert.KernelIdeal.defs _ _).mono (fun _ h => ⟨fun c => ⟨(h.1 c).1, (h.1 c).2.1, (h.1 c).2.2.1⟩, h.2⟩)
    (Cert.KernelIdeal.Prf.run_main (F := Ideal) m ρ)

/-- The reference runs to the end, its arguments unchanged; it has no semaphore. -/
theorem frame_reference : @Cert.quiescent_ReferenceIdeal Cert.ReferenceIdeal.Gen.facts := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The kernel's matrix is the reference's. -/
theorem agree : @Cert.algebraic_KernelIdeal_ReferenceIdeal_pre_butterfly_pairs Cert.KernelIdeal.Gen.facts Cert.ReferenceIdeal.Gen.facts preFacts := by
  intro m ρ m' ρ' hpre hag
  refine ⟨fun c => Cert.KernelIdeal.Prf.res (Cert.KernelIdeal.Prf.tab m) c,
    (θ_run Cert.KernelIdeal.defs _ _).mono
      (fun _ h c => ⟨(h.1 c).2.2.2, (h.1 c).1, (h.1 c).2.1, (h.1 c).2.2.1⟩) (Cert.KernelIdeal.Prf.run_main (F := Ideal) m ρ), ?_⟩
  refine (θ_run Cert.ReferenceIdeal.defs _ _).mono (fun _ h c => ⟨(h c).1.trans ?_, (h c).2⟩)
    (Cert.ReferenceIdeal.Value.run (F := Ideal) m' ρ')
  obtain ⟨e0, e1, e2⟩ := hag c
  have hn := @Cert.ReferenceIdeal.Prf.names_of_pre Ideal _ preFacts _ _ _ (hpre c)
  have key : ∀ (θ : FVec Ideal Cert.ReferenceIdeal.S2048 .f32) (a b : IVec Cert.ReferenceIdeal.S2048 32),
      θ = m ((c.tc : Thread Cert.KernelIdeal.nD Cert.KernelIdeal.τ).loc Cert.KernelIdeal.main_arg0) →
      a = m ((c.tc : Thread Cert.KernelIdeal.nD Cert.KernelIdeal.τ).loc Cert.KernelIdeal.main_arg1) →
      b = m ((c.tc : Thread Cert.KernelIdeal.nD Cert.KernelIdeal.τ).loc Cert.KernelIdeal.main_arg2) →
      Cert.ReferenceIdeal.Prf.refTerm (F := Ideal) θ a b
        = Cert.KernelIdeal.Prf.res (Cert.KernelIdeal.Prf.tab m) c := by
    rintro _ _ _ rfl rfl rfl
    exact Cert.Agree.value_eq _ _ _ hn.1 hn.2
  exact key _ _ _ e0 e1 e2

/-- All the claims. -/
theorem claim : Cert.Claim :=
  ⟨Cert.Kernel.Gen.facts, Cert.KernelIdeal.Gen.facts, Cert.ReferenceIdeal.Gen.facts, preFacts,
    frame_kernel, frame_ideal, fun m ρ _ => frame_ideal m ρ trivial, frame_reference, fun m ρ _ => frame_reference m ρ trivial,
    trivial, agree⟩

end Cert.Proof

end
